-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def preserves_Kernel_KernelIdeal : Prop :=
  IdealRules.named_const.Statement Cert.KernelIdeal.κ "inv_sqrt_512" .f32 0x3D3504F3#32 (((Real.sqrt 512)⁻¹ : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v163) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x256x512 : Shape := ⟨3, ![2, 256, 512]⟩
abbrev S2x256x256 : Shape := ⟨3, ![2, 256, 256]⟩
abbrev S256x1024 : Shape := ⟨2, ![256, 1024]⟩
abbrev S512x1536 : Shape := ⟨2, ![512, 1536]⟩
abbrev S512x512 : Shape := ⟨2, ![512, 512]⟩
abbrev S512 : Shape := ⟨1, ![512]⟩
abbrev S1x512 : Shape := ⟨2, ![1, 512]⟩
abbrev S2048x512 : Shape := ⟨2, ![2048, 512]⟩
abbrev S1x256x512 : Shape := ⟨3, ![1, 256, 512]⟩
abbrev S1x256x256 : Shape := ⟨3, ![1, 256, 256]⟩
abbrev S256x512 : Shape := ⟨2, ![256, 512]⟩
abbrev S1024x1024 : Shape := ⟨2, ![1024, 1024]⟩
abbrev S8x128 : Shape := ⟨2, ![8, 128]⟩
abbrev S8x256 : Shape := ⟨2, ![8, 256]⟩
abbrev S256x1 : Shape := ⟨2, ![256, 1]⟩
abbrev S256x63 : Shape := ⟨2, ![256, 63]⟩
abbrev S256x1536 : Shape := ⟨2, ![256, 1536]⟩
abbrev S256x256 : Shape := ⟨2, ![256, 256]⟩
abbrev S256x64 : Shape := ⟨2, ![256, 64]⟩
abbrev S256 : Shape := ⟨1, ![256]⟩
abbrev S1x256 : Shape := ⟨2, ![1, 256]⟩
abbrev S4x256 : Shape := ⟨2, ![4, 256]⟩
abbrev S4x1024 : Shape := ⟨2, ![4, 1024]⟩
abbrev S4x512 : Shape := ⟨2, ![4, 512]⟩
abbrev S4x4 : Shape := ⟨2, ![4, 4]⟩
abbrev S4 : Shape := ⟨1, ![4]⟩
abbrev S4x1 : Shape := ⟨2, ![4, 1]⟩
abbrev S4x128 : Shape := ⟨2, ![4, 128]⟩
abbrev S1x1 : Shape := ⟨2, ![1, 1]⟩
abbrev S256x128 : Shape := ⟨2, ![256, 128]⟩

abbrev nBuf : Space → Nat
  | .hbm => 15
  | .vmem => 31
  | .smem => 0
  | _ => 0

abbrev bufTy : (tb : Table) → Fin (tcTables nBuf tb) → BufTy
  | .hbm, ⟨0, _⟩ => ⟨S2x256x512, .f32⟩
  | .hbm, ⟨1, _⟩ => ⟨S2x256x512, .f32⟩
  | .hbm, ⟨2, _⟩ => ⟨S2x256x512, .f32⟩
  | .hbm, ⟨3, _⟩ => ⟨S2x256x512, .f32⟩
  | .hbm, ⟨4, _⟩ => ⟨S2x256x256, .f32⟩
  | .hbm, ⟨5, _⟩ => ⟨S2x256x256, .f32⟩
  | .hbm, ⟨6, _⟩ => ⟨S2x256x256, .f32⟩
  | .hbm, ⟨7, _⟩ => ⟨S2x256x256, .f32⟩
  | .hbm, ⟨8, _⟩ => ⟨S256x1024, .f32⟩
  | .hbm, ⟨9, _⟩ => ⟨S512x1536, .f32⟩
  | .hbm, ⟨10, _⟩ => ⟨S256x1024, .f32⟩
  | .hbm, ⟨11, _⟩ => ⟨S512x512, .f32⟩
  | .hbm, ⟨12, _⟩ => ⟨S512, .f32⟩
  | .hbm, ⟨13, _⟩ => ⟨S1x512, .f32⟩
  | .hbm, ⟨14, _⟩ => ⟨S2048x512, .f32⟩
  | .local _ .vmem, ⟨0, _⟩ => ⟨S1x256x512, .f32⟩
  | .local _ .vmem, ⟨1, _⟩ => ⟨S1x256x512, .f32⟩
  | .local _ .vmem, ⟨2, _⟩ => ⟨S1x256x512, .f32⟩
  | .local _ .vmem, ⟨3, _⟩ => ⟨S1x256x512, .f32⟩
  | .local _ .vmem, ⟨4, _⟩ => ⟨S1x256x512, .f32⟩
  | .local _ .vmem, ⟨5, _⟩ => ⟨S1x256x512, .f32⟩
  | .local _ .vmem, ⟨6, _⟩ => ⟨S1x256x512, .f32⟩
  | .local _ .vmem, ⟨7, _⟩ => ⟨S1x256x512, .f32⟩
  | .local _ .vmem, ⟨8, _⟩ => ⟨S1x256x256, .f32⟩
  | .local _ .vmem, ⟨9, _⟩ => ⟨S1x256x256, .f32⟩
  | .local _ .vmem, ⟨10, _⟩ => ⟨S1x256x256, .f32⟩
  | .local _ .vmem, ⟨11, _⟩ => ⟨S1x256x256, .f32⟩
  | .local _ .vmem, ⟨12, _⟩ => ⟨S1x256x256, .f32⟩
  | .local _ .vmem, ⟨13, _⟩ => ⟨S1x256x256, .f32⟩
  | .local _ .vmem, ⟨14, _⟩ => ⟨S1x256x256, .f32⟩
  | .local _ .vmem, ⟨15, _⟩ => ⟨S1x256x256, .f32⟩
  | .local _ .vmem, ⟨16, _⟩ => ⟨S512x1536, .f32⟩
  | .local _ .vmem, ⟨17, _⟩ => ⟨S256x1024, .f32⟩
  | .local _ .vmem, ⟨18, _⟩ => ⟨S256x1024, .f32⟩
  | .local _ .vmem, ⟨19, _⟩ => ⟨S512x512, .f32⟩
  | .local _ .vmem, ⟨20, _⟩ => ⟨S1x512, .f32⟩
  | .local _ .vmem, ⟨21, _⟩ => ⟨S256x512, .f32⟩
  | .local _ .vmem, ⟨22, _⟩ => ⟨S256x512, .f32⟩
  | .local _ .vmem, ⟨23, _⟩ => ⟨S1024x1024, .bf16⟩
  | .local _ .vmem, ⟨24, _⟩ => ⟨S1024x1024, .bf16⟩
  | .local _ .vmem, ⟨25, _⟩ => ⟨S1024x1024, .bf16⟩
  | .local _ .vmem, ⟨26, _⟩ => ⟨S8x128, .i32⟩
  | .local _ .vmem, ⟨27, _⟩ => ⟨S8x256, .f32⟩
  | .local _ .vmem, ⟨28, _⟩ => ⟨S512x1536, .bf16⟩
  | .local _ .vmem, ⟨29, _⟩ => ⟨S256x1024, .bf16⟩
  | .local _ .vmem, ⟨30, _⟩ => ⟨S512x512, .bf16⟩
  | _, _ => ⟨S2x256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg13_1 : Ref sig .tc := ⟨.vmem, 22, rfl⟩
abbrev cc0_scratch0 : Ref sig .tc := ⟨.vmem, 23, rfl⟩
abbrev cc0_scratch1 : Ref sig .tc := ⟨.vmem, 24, rfl⟩
abbrev cc0_scratch2 : Ref sig .tc := ⟨.vmem, 25, rfl⟩
abbrev cc0_scratch3 : Ref sig .tc := ⟨.vmem, 26, rfl⟩
abbrev cc0_scratch4 : Ref sig .tc := ⟨.vmem, 27, rfl⟩
abbrev cc0_scratch5 : Ref sig .tc := ⟨.vmem, 28, rfl⟩
abbrev cc0_scratch6 : Ref sig .tc := ⟨.vmem, 29, rfl⟩
abbrev cc0_scratch7 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem13_0 : DmaSem sig := 21
abbrev cc0_sem13_1 : DmaSem sig := 22

abbrev nD : Nat := 1
abbrev τ : Topo := Topo.v7x

variable {F : FTy → Type} [FloatOps F]

abbrev grid0 : Pipeline.Grid := ⟨2, ![2, 5], ![false, false]⟩

def k0_cond3 (i : grid0.Coords) : BitVec 1 :=
  let arg1 : BitVec 32 := BitVec.ofNat 32 (i 1).val
  let c0_i32_4 : BitVec 32 := 0#32
  let v8 : BitVec 1 := Scalar.cmpi .sgt arg1 c0_i32_4
  let v9 : BitVec 32 := Scalar.extui v8
  let c0_i32_5 : BitVec 32 := 0#32
  let v10 : BitVec 1 := Scalar.cmpi .ne v9 c0_i32_5
  v10

def k0_off1 (i : grid0.Coords) : Fin 2 → Nat :=
  let arg1 : BitVec 32 := BitVec.ofNat 32 (i 1).val
  let c1_i32 : BitVec 32 := 1#32
  let v11 : BitVec 32 := Scalar.subi arg1 c1_i32
  let v13 : Index := Scalar.indexCast v11
  let c0 : Index := 0#32
  ![v13.toNat, 0]
def k0_off2 (i : grid0.Coords) : Fin 2 → Nat :=
  let arg1 : BitVec 32 := BitVec.ofNat 32 (i 1).val
  let c1_i32 : BitVec 32 := 1#32
  let v11 : BitVec 32 := Scalar.subi arg1 c1_i32
  let c256_i32 : BitVec 32 := 256#32
  let v12 : BitVec 32 := Scalar.muli v11 c256_i32
  let v28 : Index := Scalar.indexCast v12
  let c0_14 : Index := 0#32
  ![v28.toNat, 0]
def k0_off3 (v15 : BitVec 32) (c0_i32_7 : BitVec 32) (c0_i32_6 : BitVec 32) : Fin 2 → Nat :=
  let v16 : BitVec 1 := Scalar.cmpi .sle v15 c0_i32_6
  let v17 : BitVec 32 := Scalar.extui v16
  let v18 : BitVec 32 := Scalar.addi c0_i32_7 v17
  let c256_i32_8 : BitVec 32 := 256#32
  let v19 : BitVec 32 := Scalar.muli v18 c256_i32_8
  let v30 : Index := Scalar.indexCast v19
  let c0_15 : Index := 0#32
  ![v30.toNat, 0]
def k0_off3_at (r : Fin 3) : BitVec 32 × BitVec 32 :=
  if r.val < 1 then
    (0#32, 0#32)
  else
    if r.val < 2 then
      (1#32, 1#32)
    else
      (2#32, 2#32)

def k0_off4 (i : grid0.Coords) : Fin 2 → Nat :=
  let arg1 : BitVec 32 := BitVec.ofNat 32 (i 1).val
  let c1_i32 : BitVec 32 := 1#32
  let v11 : BitVec 32 := Scalar.subi arg1 c1_i32
  let c256_i32 : BitVec 32 := 256#32
  let v12 : BitVec 32 := Scalar.muli v11 c256_i32
  let v79 : Index := Scalar.indexCast v12
  let c128 : Index := 128#32
  ![v79.toNat, 128]
def k0_off5 (v15 : BitVec 32) (c0_i32_7 : BitVec 32) (c0_i32_6 : BitVec 32) : Fin 2 → Nat :=
  let v16 : BitVec 1 := Scalar.cmpi .sle v15 c0_i32_6
  let v17 : BitVec 32 := Scalar.extui v16
  let v18 : BitVec 32 := Scalar.addi c0_i32_7 v17
  let c256_i32_8 : BitVec 32 := 256#32
  let v19 : BitVec 32 := Scalar.muli v18 c256_i32_8
  let v81 : Index := Scalar.indexCast v19
  let c128_31 : Index := 128#32
  ![v81.toNat, 128]
def k0_off5_at (r : Fin 3) : BitVec 32 × BitVec 32 :=
  if r.val < 1 then
    (0#32, 0#32)
  else
    if r.val < 2 then
      (1#32, 1#32)
    else
      (2#32, 2#32)
def k0_off6 (i : grid0.Coords) : Fin 2 → Nat :=
  let arg1 : BitVec 32 := BitVec.ofNat 32 (i 1).val
  let c1_i32 : BitVec 32 := 1#32
  let v11 : BitVec 32 := Scalar.subi arg1 c1_i32
  let c256_i32 : BitVec 32 := 256#32
  let v12 : BitVec 32 := Scalar.muli v11 c256_i32
  let v130 : Index := Scalar.indexCast v12
  let c256 : Index := 256#32
  ![v130.toNat, 256]
def k0_off7 (v15 : BitVec 32) (c0_i32_7 : BitVec 32) (c0_i32_6 : BitVec 32) : Fin 2 → Nat :=
  let v16 : BitVec 1 := Scalar.cmpi .sle v15 c0_i32_6
  let v17 : BitVec 32 := Scalar.extui v16
  let v18 : BitVec 32 := Scalar.addi c0_i32_7 v17
  let c256_i32_8 : BitVec 32 := 256#32
  let v19 : BitVec 32 := Scalar.muli v18 c256_i32_8
  let v132 : Index := Scalar.indexCast v19
  let c256_48 : Index := 256#32
  ![v132.toNat, 256]
def k0_off7_at (r : Fin 3) : BitVec 32 × BitVec 32 :=
  if r.val < 1 then
    (0#32, 0#32)
  else
    if r.val < 2 then
      (1#32, 1#32)
    else
      (2#32, 2#32)
def k0_off8 (i : grid0.Coords) : Fin 2 → Nat :=
  let arg1 : BitVec 32 := BitVec.ofNat 32 (i 1).val
  let c1_i32 : BitVec 32 := 1#32
  let v11 : BitVec 32 := Scalar.subi arg1 c1_i32
  let c256_i32 : BitVec 32 := 256#32
  let v12 : BitVec 32 := Scalar.muli v11 c256_i32
  let v181 : Index := Scalar.indexCast v12
  let c384 : Index := 384#32
  ![v181.toNat, 384]
def k0_off9 (v15 : BitVec 32) (c0_i32_7 : BitVec 32) (c0_i32_6 : BitVec 32) : Fin 2 → Nat :=
  let v16 : BitVec 1 := Scalar.cmpi .sle v15 c0_i32_6
  let v17 : BitVec 32 := Scalar.extui v16
  let v18 : BitVec 32 := Scalar.addi c0_i32_7 v17
  let c256_i32_8 : BitVec 32 := 256#32
  let v19 : BitVec 32 := Scalar.muli v18 c256_i32_8
  let v183 : Index := Scalar.indexCast v19
  let c384_65 : Index := 384#32
  ![v183.toNat, 384]
def k0_off9_at (r : Fin 3) : BitVec 32 × BitVec 32 :=
  if r.val < 1 then
    (0#32, 0#32)
  else
    if r.val < 2 then
      (1#32, 1#32)
    else
      (2#32, 2#32)
def k0_off10 (i : grid0.Coords) : Fin 2 → Nat :=
  let arg1 : BitVec 32 := BitVec.ofNat 32 (i 1).val
  let c1_i32 : BitVec 32 := 1#32
  let v11 : BitVec 32 := Scalar.subi arg1 c1_i32
  let c256_i32 : BitVec 32 := 256#32
  let v12 : BitVec 32 := Scalar.muli v11 c256_i32
  let v232 : Index := Scalar.indexCast v12
  let c512 : Index := 512#32
  ![v232.toNat, 512]
def k0_off11 (v15 : BitVec 32) (c0_i32_7 : BitVec 32) (c0_i32_6 : BitVec 32) : Fin 2 → Nat :=
  let v16 : BitVec 1 := Scalar.cmpi .sle v15 c0_i32_6
  let v17 : BitVec 32 := Scalar.extui v16
  let v18 : BitVec 32 := Scalar.addi c0_i32_7 v17
  let c256_i32_8 : BitVec 32 := 256#32
  let v19 : BitVec 32 := Scalar.muli v18 c256_i32_8
  let v234 : Index := Scalar.indexCast v19
  let c512_82 : Index := 512#32
  ![v234.toNat, 512]
def k0_off11_at (r : Fin 3) : BitVec 32 × BitVec 32 :=
  if r.val < 1 then
    (0#32, 0#32)
  else
    if r.val < 2 then
      (1#32, 1#32)
    else
      (2#32, 2#32)
def k0_off12 (i : grid0.Coords) : Fin 2 → Nat :=
  let arg1 : BitVec 32 := BitVec.ofNat 32 (i 1).val
  let c1_i32 : BitVec 32 := 1#32
  let v11 : BitVec 32 := Scalar.subi arg1 c1_i32
  let c256_i32 : BitVec 32 := 256#32
  let v12 : BitVec 32 := Scalar.muli v11 c256_i32
  let v283 : Index := Scalar.indexCast v12
  let c640 : Index := 640#32
  ![v283.toNat, 640]
def k0_off13 (v15 : BitVec 32) (c0_i32_7 : BitVec 32) (c0_i32_6 : BitVec 32) : Fin 2 → Nat :=
  let v16 : BitVec 1 := Scalar.cmpi .sle v15 c0_i32_6
  let v17 : BitVec 32 := Scalar.extui v16
  let v18 : BitVec 32 := Scalar.addi c0_i32_7 v17
  let c256_i32_8 : BitVec 32 := 256#32
  let v19 : BitVec 32 := Scalar.muli v18 c256_i32_8
  let v285 : Index := Scalar.indexCast v19
  let c640_99 : Index := 640#32
  ![v285.toNat, 640]
def k0_off13_at (r : Fin 3) : BitVec 32 × BitVec 32 :=
  if r.val < 1 then
    (0#32, 0#32)
  else
    if r.val < 2 then
      (1#32, 1#32)
    else
      (2#32, 2#32)
def k0_off14 (i : grid0.Coords) : Fin 2 → Nat :=
  let arg1 : BitVec 32 := BitVec.ofNat 32 (i 1).val
  let c1_i32 : BitVec 32 := 1#32
  let v11 : BitVec 32 := Scalar.subi arg1 c1_i32
  let c256_i32 : BitVec 32 := 256#32
  let v12 : BitVec 32 := Scalar.muli v11 c256_i32
  let v334 : Index := Scalar.indexCast v12
  let c768 : Index := 768#32
  ![v334.toNat, 768]
def k0_off15 (v15 : BitVec 32) (c0_i32_7 : BitVec 32) (c0_i32_6 : BitVec 32) : Fin 2 → Nat :=
  let v16 : BitVec 1 := Scalar.cmpi .sle v15 c0_i32_6
  let v17 : BitVec 32 := Scalar.extui v16
  let v18 : BitVec 32 := Scalar.addi c0_i32_7 v17
  let c256_i32_8 : BitVec 32 := 256#32
  let v19 : BitVec 32 := Scalar.muli v18 c256_i32_8
  let v336 : Index := Scalar.indexCast v19
  let c768_116 : Index := 768#32
  ![v336.toNat, 768]
def k0_off15_at (r : Fin 3) : BitVec 32 × BitVec 32 :=
  if r.val < 1 then
    (0#32, 0#32)
  else
    if r.val < 2 then
      (1#32, 1#32)
    else
      (2#32, 2#32)
def k0_off16 (i : grid0.Coords) : Fin 2 → Nat :=
  let arg1 : BitVec 32 := BitVec.ofNat 32 (i 1).val
  let c1_i32 : BitVec 32 := 1#32
  let v11 : BitVec 32 := Scalar.subi arg1 c1_i32
  let c256_i32 : BitVec 32 := 256#32
  let v12 : BitVec 32 := Scalar.muli v11 c256_i32
  let v385 : Index := Scalar.indexCast v12
  let c896 : Index := 896#32
  ![v385.toNat, 896]
def k0_off17 (v15 : BitVec 32) (c0_i32_7 : BitVec 32) (c0_i32_6 : BitVec 32) : Fin 2 → Nat :=
  let v16 : BitVec 1 := Scalar.cmpi .sle v15 c0_i32_6
  let v17 : BitVec 32 := Scalar.extui v16
  let v18 : BitVec 32 := Scalar.addi c0_i32_7 v17
  let c256_i32_8 : BitVec 32 := 256#32
  let v19 : BitVec 32 := Scalar.muli v18 c256_i32_8
  let v387 : Index := Scalar.indexCast v19
  let c896_133 : Index := 896#32
  ![v387.toNat, 896]
def k0_off17_at (r : Fin 3) : BitVec 32 × BitVec 32 :=
  if r.val < 1 then
    (0#32, 0#32)
  else
    if r.val < 2 then
      (1#32, 1#32)
    else
      (2#32, 2#32)

def k0_chk1 (i : grid0.Coords) (v15 : BitVec 32) : Prop :=
  (∀ (k0_h3 : k0_cond3 i = 1#1), ∀ (r : Fin 3), ∀ a, (k0_off3 v15 (k0_off3_at r).1 (k0_off3_at r).2) a + S256x128.size a ≤ S1024x1024.size a) ∧
  (∀ (k0_h3 : k0_cond3 i = 1#1), ∀ (r : Fin 3), ∀ a, (k0_off5 v15 (k0_off5_at r).1 (k0_off5_at r).2) a + S256x128.size a ≤ S1024x1024.size a) ∧
  (∀ (k0_h3 : k0_cond3 i = 1#1), ∀ (r : Fin 3), ∀ a, (k0_off7 v15 (k0_off7_at r).1 (k0_off7_at r).2) a + S256x128.size a ≤ S1024x1024.size a) ∧
  (∀ (k0_h3 : k0_cond3 i = 1#1), ∀ (r : Fin 3), ∀ a, (k0_off9 v15 (k0_off9_at r).1 (k0_off9_at r).2) a + S256x128.size a ≤ S1024x1024.size a) ∧
  (∀ (k0_h3 : k0_cond3 i = 1#1), ∀ (r : Fin 3), ∀ a, (k0_off11 v15 (k0_off11_at r).1 (k0_off11_at r).2) a + S256x128.size a ≤ S1024x1024.size a) ∧
  (∀ (k0_h3 : k0_cond3 i = 1#1), ∀ (r : Fin 3), ∀ a, (k0_off13 v15 (k0_off13_at r).1 (k0_off13_at r).2) a + S256x128.size a ≤ S1024x1024.size a) ∧
  (∀ (k0_h3 : k0_cond3 i = 1#1), ∀ (r : Fin 3), ∀ a, (k0_off15 v15 (k0_off15_at r).1 (k0_off15_at r).2) a + S256x128.size a ≤ S1024x1024.size a) ∧
  (∀ (k0_h3 : k0_cond3 i = 1#1), ∀ (r : Fin 3), ∀ a, (k0_off17 v15 (k0_off17_at r).1 (k0_off17_at r).2) a + S256x128.size a ≤ S1024x1024.size a)
theorem k0_off3_inb : ∀ (i : grid0.Coords) (v15 : BitVec 32) (k0_hw1 : k0_chk1 i v15), ∀ (k0_h3 : k0_cond3 i = 1#1), ∀ (r : Fin 3), ∀ a, (k0_off3 v15 (k0_off3_at r).1 (k0_off3_at r).2) a + S256x128.size a ≤ S1024x1024.size a := fun i v15 k0_hw1 k0_h3 r => k0_hw1.1 k0_h3 r
theorem k0_off5_inb : ∀ (i : grid0.Coords) (v15 : BitVec 32) (k0_hw1 : k0_chk1 i v15), ∀ (k0_h3 : k0_cond3 i = 1#1), ∀ (r : Fin 3), ∀ a, (k0_off5 v15 (k0_off5_at r).1 (k0_off5_at r).2) a + S256x128.size a ≤ S1024x1024.size a := fun i v15 k0_hw1 k0_h3 r => k0_hw1.2.1 k0_h3 r
theorem k0_off7_inb : ∀ (i : grid0.Coords) (v15 : BitVec 32) (k0_hw1 : k0_chk1 i v15), ∀ (k0_h3 : k0_cond3 i = 1#1), ∀ (r : Fin 3), ∀ a, (k0_off7 v15 (k0_off7_at r).1 (k0_off7_at r).2) a + S256x128.size a ≤ S1024x1024.size a := fun i v15 k0_hw1 k0_h3 r => k0_hw1.2.2.1 k0_h3 r
theorem k0_off9_inb : ∀ (i : grid0.Coords) (v15 : BitVec 32) (k0_hw1 : k0_chk1 i v15), ∀ (k0_h3 : k0_cond3 i = 1#1), ∀ (r : Fin 3), ∀ a, (k0_off9 v15 (k0_off9_at r).1 (k0_off9_at r).2) a + S256x128.size a ≤ S1024x1024.size a := fun i v15 k0_hw1 k0_h3 r => k0_hw1.2.2.2.1 k0_h3 r
theorem k0_off11_inb : ∀ (i : grid0.Coords) (v15 : BitVec 32) (k0_hw1 : k0_chk1 i v15), ∀ (k0_h3 : k0_cond3 i = 1#1), ∀ (r : Fin 3), ∀ a, (k0_off11 v15 (k0_off11_at r).1 (k0_off11_at r).2) a + S256x128.size a ≤ S1024x1024.size a := fun i v15 k0_hw1 k0_h3 r => k0_hw1.2.2.2.2.1 k0_h3 r
theorem k0_off13_inb : ∀ (i : grid0.Coords) (v15 : BitVec 32) (k0_hw1 : k0_chk1 i v15), ∀ (k0_h3 : k0_cond3 i = 1#1), ∀ (r : Fin 3), ∀ a, (k0_off13 v15 (k0_off13_at r).1 (k0_off13_at r).2) a + S256x128.size a ≤ S1024x1024.size a := fun i v15 k0_hw1 k0_h3 r => k0_hw1.2.2.2.2.2.1 k0_h3 r
theorem k0_off15_inb : ∀ (i : grid0.Coords) (v15 : BitVec 32) (k0_hw1 : k0_chk1 i v15), ∀ (k0_h3 : k0_cond3 i = 1#1), ∀ (r : Fin 3), ∀ a, (k0_off15 v15 (k0_off15_at r).1 (k0_off15_at r).2) a + S256x128.size a ≤ S1024x1024.size a := fun i v15 k0_hw1 k0_h3 r => k0_hw1.2.2.2.2.2.2.1 k0_h3 r
theorem k0_off17_inb : ∀ (i : grid0.Coords) (v15 : BitVec 32) (k0_hw1 : k0_chk1 i v15), ∀ (k0_h3 : k0_cond3 i = 1#1), ∀ (r : Fin 3), ∀ a, (k0_off17 v15 (k0_off17_at r).1 (k0_off17_at r).2) a + S256x128.size a ≤ S1024x1024.size a := fun i v15 k0_hw1 k0_h3 r => k0_hw1.2.2.2.2.2.2.2 k0_h3 r

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let c1_i32 : BitVec 32 := 1#32
  let v1 : BitVec 32 := Scalar.maxsi arg1 c1_i32
  let v2 : BitVec 32 := Scalar.addi v0 v1
  let c1_i32_0 : BitVec 32 := 1#32
  let v3 : BitVec 32 := Scalar.subi v2 c1_i32_0
  let c0_i32 : BitVec 32 := 0#32
  let c0_i32_1 : BitVec 32 := 0#32
  ![v3.toNat, c0_i32.toNat]

abbrev stage0_0 : Fin 2 → Memref sig .tc .vmem S1x256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x256x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 1 → Memref sig .tc .vmem S512x1536 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S256x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S256x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S512x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 2 → Memref sig .tc .vmem S256x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== KernelIdeal.lean ====
variable {F : FTy → Type} [FloatOps F] [Named F]
def κ : String → Option EReal := fun
  | "inv_sqrt_512" => some (((Real.sqrt 512)⁻¹ : ℝ) : EReal)
  | _ => none
-- ==== ReferenceIdeal.lean ====
abbrev S2x256x512 : Shape := ⟨3, ![2, 256, 512]⟩
abbrev S2x256x256 : Shape := ⟨3, ![2, 256, 256]⟩
abbrev S256x1024 : Shape := ⟨2, ![256, 1024]⟩
abbrev S512x1536 : Shape := ⟨2, ![512, 1536]⟩
abbrev S512x512 : Shape := ⟨2, ![512, 512]⟩
abbrev S512 : Shape := ⟨1, ![512]⟩
abbrev S_ : Shape := ⟨0, ![]⟩
abbrev S2x256 : Shape := ⟨2, ![2, 256]⟩
abbrev S2x1x256 : Shape := ⟨3, ![2, 1, 256]⟩
abbrev S2x4x256 : Shape := ⟨3, ![2, 4, 256]⟩
abbrev S2x4x1024 : Shape := ⟨3, ![2, 4, 1024]⟩
abbrev S2x4x512 : Shape := ⟨3, ![2, 4, 512]⟩
abbrev S2x512x4 : Shape := ⟨3, ![2, 512, 4]⟩
abbrev S2x4x4 : Shape := ⟨3, ![2, 4, 4]⟩
abbrev S2x4 : Shape := ⟨2, ![2, 4]⟩
abbrev S2x4x1 : Shape := ⟨3, ![2, 4, 1]⟩
abbrev S4x4 : Shape := ⟨2, ![4, 4]⟩
abbrev S1x4x4 : Shape := ⟨3, ![1, 4, 4]⟩
abbrev S2x4x3 : Shape := ⟨3, ![2, 4, 3]⟩
abbrev S2x1x256x512 : Shape := ⟨4, ![2, 1, 256, 512]⟩
abbrev S2x4x256x512 : Shape := ⟨4, ![2, 4, 256, 512]⟩
abbrev S2x1x256x256 : Shape := ⟨4, ![2, 1, 256, 256]⟩
abbrev S2x4x256x256 : Shape := ⟨4, ![2, 4, 256, 256]⟩
abbrev S2 : Shape := ⟨1, ![2]⟩
abbrev S2x1x1 : Shape := ⟨3, ![2, 1, 1]⟩
abbrev S2x4x3x1 : Shape := ⟨4, ![2, 4, 3, 1]⟩
abbrev S2x4x3x2 : Shape := ⟨4, ![2, 4, 3, 2]⟩
abbrev S2x4x3x256x512 : Shape := ⟨5, ![2, 4, 3, 256, 512]⟩
abbrev S2x4x3x256x256 : Shape := ⟨5, ![2, 4, 3, 256, 256]⟩
abbrev S2x4x3x256 : Shape := ⟨4, ![2, 4, 3, 256]⟩
abbrev S8x768x512 : Shape := ⟨3, ![8, 768, 512]⟩
abbrev S8x768x256 : Shape := ⟨3, ![8, 768, 256]⟩
abbrev S8x768 : Shape := ⟨2, ![8, 768]⟩
abbrev S8x768x1536 : Shape := ⟨3, ![8, 768, 1536]⟩
abbrev S8x768x1024 : Shape := ⟨3, ![8, 768, 1024]⟩
abbrev S8x768x8x64 : Shape := ⟨4, ![8, 768, 8, 64]⟩
abbrev S8x8x768x64 : Shape := ⟨4, ![8, 8, 768, 64]⟩
abbrev S8x8x64x768 : Shape := ⟨4, ![8, 8, 64, 768]⟩
abbrev S8x8x768x768 : Shape := ⟨4, ![8, 8, 768, 768]⟩
abbrev S8x1x1x768 : Shape := ⟨4, ![8, 1, 1, 768]⟩
abbrev S8x8x768 : Shape := ⟨3, ![8, 8, 768]⟩
abbrev S8x8x768x1 : Shape := ⟨4, ![8, 8, 768, 1]⟩
abbrev S1x1x512 : Shape := ⟨3, ![1, 1, 512]⟩
abbrev S2x4x1x256x512 : Shape := ⟨5, ![2, 4, 1, 256, 512]⟩
abbrev S2048x512 : Shape := ⟨2, ![2048, 512]⟩

abbrev nBuf : Space → Nat
  | .hbm => 257
  | .vmem => 0
  | .smem => 0
  | _ => 0

abbrev hbmTy0_0 (i : Nat) : BufTy := match i % 128 with
  | 0 => ⟨S2x256x512, .f32⟩
  | 1 => ⟨S2x256x512, .f32⟩
  | 2 => ⟨S2x256x512, .f32⟩
  | 3 => ⟨S2x256x512, .f32⟩
  | 4 => ⟨S2x256x256, .f32⟩
  | 5 => ⟨S2x256x256, .f32⟩
  | 6 => ⟨S2x256x256, .f32⟩
  | 7 => ⟨S2x256x256, .f32⟩
  | 8 => ⟨S256x1024, .f32⟩
  | 9 => ⟨S512x1536, .f32⟩
  | 10 => ⟨S256x1024, .f32⟩
  | 11 => ⟨S512x512, .f32⟩
  | 12 => ⟨S512, .f32⟩
  | 13 => ⟨S_, .f32⟩
  | 14 => ⟨S2x256, .f32⟩
  | 15 => ⟨S_, .f32⟩
  | 16 => ⟨S2x256, .f32⟩
  | 17 => ⟨S2x256, .f32⟩
  | 18 => ⟨S_, .f32⟩
  | 19 => ⟨S2x256, .f32⟩
  | 20 => ⟨S_, .f32⟩
  | 21 => ⟨S2x256, .f32⟩
  | 22 => ⟨S2x256, .f32⟩
  | 23 => ⟨S_, .f32⟩
  | 24 => ⟨S2x256, .f32⟩
  | 25 => ⟨S_, .f32⟩
  | 26 => ⟨S2x256, .f32⟩
  | 27 => ⟨S2x256, .f32⟩
  | 28 => ⟨S_, .f32⟩
  | 29 => ⟨S2x256, .f32⟩
  | 30 => ⟨S_, .f32⟩
  | 31 => ⟨S2x256, .f32⟩
  | 32 => ⟨S2x256, .f32⟩
  | 33 => ⟨S2x1x256, .f32⟩
  | 34 => ⟨S2x1x256, .f32⟩
  | 35 => ⟨S2x1x256, .f32⟩
  | 36 => ⟨S2x1x256, .f32⟩
  | 37 => ⟨S2x4x256, .f32⟩
  | 38 => ⟨S2x4x1024, .f32⟩
  | 39 => ⟨S2x4x512, .f32⟩
  | 40 => ⟨S2x4x512, .f32⟩
  | 41 => ⟨S_, .f32⟩
  | 42 => ⟨S_, .f32⟩
  | 43 => ⟨S_, .f32⟩
  | 44 => ⟨S2x4x512, .f32⟩
  | 45 => ⟨S2x4x512, .f32⟩
  | 46 => ⟨S_, .f32⟩
  | 47 => ⟨S2x4x512, .f32⟩
  | 48 => ⟨S2x4x512, .f32⟩
  | 49 => ⟨S_, .f32⟩
  | 50 => ⟨S_, .f32⟩
  | 51 => ⟨S_, .f32⟩
  | 52 => ⟨S2x4x512, .f32⟩
  | 53 => ⟨S2x4x512, .f32⟩
  | 54 => ⟨S_, .f32⟩
  | 55 => ⟨S2x4x512, .f32⟩
  | 56 => ⟨S2x4x512, .f32⟩
  | 57 => ⟨S2x512x4, .f32⟩
  | 58 => ⟨S2x4x4, .f32⟩
  | 59 => ⟨S_, .f32⟩
  | 60 => ⟨S_, .f32⟩
  | 61 => ⟨S2x4x4, .f32⟩
  | 62 => ⟨S2x4x4, .f32⟩
  | 63 => ⟨S_, .f32⟩
  | 64 => ⟨S2x4, .f32⟩
  | 65 => ⟨S_, .f32⟩
  | 66 => ⟨S2x4, .f32⟩
  | 67 => ⟨S2x4, .f32⟩
  | 68 => ⟨S2x4x1, .f32⟩
  | 69 => ⟨S2x4x4, .f32⟩
  | 70 => ⟨S2x4x4, .f32⟩
  | 71 => ⟨S2x4x4, .f32⟩
  | 72 => ⟨S_, .f32⟩
  | 73 => ⟨S2x4, .f32⟩
  | 74 => ⟨S2x4x1, .f32⟩
  | 75 => ⟨S2x4x4, .f32⟩
  | 76 => ⟨S2x4x4, .f32⟩
  | 77 => ⟨S4x4, .i32⟩
  | 78 => ⟨S4x4, .i32⟩
  | 79 => ⟨S_, .i32⟩
  | 80 => ⟨S4x4, .i32⟩
  | 81 => ⟨S4x4, .i32⟩
  | 82 => ⟨S4x4, .i1⟩
  | 83 => ⟨S4x4, .f32⟩
  | 84 => ⟨S_, .f32⟩
  | 85 => ⟨S4x4, .f32⟩
  | 86 => ⟨S4x4, .f32⟩
  | 87 => ⟨S1x4x4, .f32⟩
  | 88 => ⟨S2x4x4, .f32⟩
  | 89 => ⟨S2x4x4, .f32⟩
  | 90 => ⟨S2x4x3, .f32⟩
  | 91 => ⟨S2x4x3, .i32⟩
  | 92 => ⟨S2x1x256x512, .f32⟩
  | 93 => ⟨S2x1x256x512, .f32⟩
  | 94 => ⟨S2x1x256x512, .f32⟩
  | 95 => ⟨S2x1x256x512, .f32⟩
  | 96 => ⟨S2x4x256x512, .f32⟩
  | 97 => ⟨S2x1x256x256, .f32⟩
  | 98 => ⟨S2x1x256x256, .f32⟩
  | 99 => ⟨S2x1x256x256, .f32⟩
  | 100 => ⟨S2x1x256x256, .f32⟩
  | 101 => ⟨S2x4x256x256, .f32⟩
  | 102 => ⟨S_, .i1⟩
  | 103 => ⟨S2x4x256, .i1⟩
  | 104 => ⟨S2, .i32⟩
  | 105 => ⟨S2x1x1, .i32⟩
  | 106 => ⟨S_, .i32⟩
  | 107 => ⟨S2x1x1, .i32⟩
  | 108 => ⟨S2x1x1, .i1⟩
  | 109 => ⟨S_, .i32⟩
  | 110 => ⟨S2x1x1, .i32⟩
  | 111 => ⟨S2x1x1, .i32⟩
  | 112 => ⟨S2x1x1, .i32⟩
  | 113 => ⟨S_, .i32⟩
  | 114 => ⟨S2x4x3, .i32⟩
  | 115 => ⟨S2x4x3, .i1⟩
  | 116 => ⟨S_, .i32⟩
  | 117 => ⟨S2x4x3, .i32⟩
  | 118 => ⟨S2x4x3, .i32⟩
  | 119 => ⟨S2x4x3, .i32⟩
  | 120 => ⟨S2x4x3, .i32⟩
  | 121 => ⟨S2x4x3x1, .i32⟩
  | 122 => ⟨S2x4x3x1, .i32⟩
  | 123 => ⟨S2x4x3x2, .i32⟩
  | 124 => ⟨S2x4x3x256x512, .f32⟩
  | 125 => ⟨S_, .i32⟩
  | 126 => ⟨S2x1x1, .i32⟩
  | 127 => ⟨S2x1x1, .i1⟩
  | _ => ⟨S2x256x512, .f32⟩

abbrev hbmTy0_1 (i : Nat) : BufTy := match i % 128 with
  | 0 => ⟨S_, .i32⟩
  | 1 => ⟨S2x1x1, .i32⟩
  | 2 => ⟨S2x1x1, .i32⟩
  | 3 => ⟨S2x1x1, .i32⟩
  | 4 => ⟨S_, .i32⟩
  | 5 => ⟨S2x4x3, .i32⟩
  | 6 => ⟨S2x4x3, .i1⟩
  | 7 => ⟨S_, .i32⟩
  | 8 => ⟨S2x4x3, .i32⟩
  | 9 => ⟨S2x4x3, .i32⟩
  | 10 => ⟨S2x4x3, .i32⟩
  | 11 => ⟨S2x4x3, .i32⟩
  | 12 => ⟨S2x4x3x1, .i32⟩
  | 13 => ⟨S2x4x3x1, .i32⟩
  | 14 => ⟨S2x4x3x2, .i32⟩
  | 15 => ⟨S2x4x3x256x256, .f32⟩
  | 16 => ⟨S_, .i32⟩
  | 17 => ⟨S2x1x1, .i32⟩
  | 18 => ⟨S2x1x1, .i1⟩
  | 19 => ⟨S_, .i32⟩
  | 20 => ⟨S2x1x1, .i32⟩
  | 21 => ⟨S2x1x1, .i32⟩
  | 22 => ⟨S2x1x1, .i32⟩
  | 23 => ⟨S_, .i32⟩
  | 24 => ⟨S2x4x3, .i32⟩
  | 25 => ⟨S2x4x3, .i1⟩
  | 26 => ⟨S_, .i32⟩
  | 27 => ⟨S2x4x3, .i32⟩
  | 28 => ⟨S2x4x3, .i32⟩
  | 29 => ⟨S2x4x3, .i32⟩
  | 30 => ⟨S2x4x3, .i32⟩
  | 31 => ⟨S2x4x3x1, .i32⟩
  | 32 => ⟨S2x4x3x1, .i32⟩
  | 33 => ⟨S2x4x3x2, .i32⟩
  | 34 => ⟨S2x4x3x256, .i1⟩
  | 35 => ⟨S8x768x512, .f32⟩
  | 36 => ⟨S8x768x256, .f32⟩
  | 37 => ⟨S8x768, .i1⟩
  | 38 => ⟨S8x768x1536, .f32⟩
  | 39 => ⟨S8x768x512, .f32⟩
  | 40 => ⟨S8x768x512, .f32⟩
  | 41 => ⟨S8x768x512, .f32⟩
  | 42 => ⟨S8x768x1024, .f32⟩
  | 43 => ⟨S8x768x512, .f32⟩
  | 44 => ⟨S8x768x512, .f32⟩
  | 45 => ⟨S8x768x8x64, .f32⟩
  | 46 => ⟨S8x8x768x64, .f32⟩
  | 47 => ⟨S8x768x8x64, .f32⟩
  | 48 => ⟨S8x8x768x64, .f32⟩
  | 49 => ⟨S8x768x8x64, .f32⟩
  | 50 => ⟨S8x8x768x64, .f32⟩
  | 51 => ⟨S8x768x8x64, .f32⟩
  | 52 => ⟨S8x8x768x64, .f32⟩
  | 53 => ⟨S8x768x8x64, .f32⟩
  | 54 => ⟨S8x8x768x64, .f32⟩
  | 55 => ⟨S_, .f32⟩
  | 56 => ⟨S_, .f32⟩
  | 57 => ⟨S_, .f32⟩
  | 58 => ⟨S8x8x768x64, .f32⟩
  | 59 => ⟨S8x8x768x64, .f32⟩
  | 60 => ⟨S_, .f32⟩
  | 61 => ⟨S8x8x768x64, .f32⟩
  | 62 => ⟨S8x8x768x64, .f32⟩
  | 63 => ⟨S_, .f32⟩
  | 64 => ⟨S_, .f32⟩
  | 65 => ⟨S_, .f32⟩
  | 66 => ⟨S8x8x768x64, .f32⟩
  | 67 => ⟨S8x8x768x64, .f32⟩
  | 68 => ⟨S_, .f32⟩
  | 69 => ⟨S8x8x768x64, .f32⟩
  | 70 => ⟨S8x8x768x64, .f32⟩
  | 71 => ⟨S_, .f32⟩
  | 72 => ⟨S_, .f32⟩
  | 73 => ⟨S_, .f32⟩
  | 74 => ⟨S8x8x768x64, .f32⟩
  | 75 => ⟨S8x8x768x64, .f32⟩
  | 76 => ⟨S_, .f32⟩
  | 77 => ⟨S8x8x768x64, .f32⟩
  | 78 => ⟨S8x8x768x64, .f32⟩
  | 79 => ⟨S_, .f32⟩
  | 80 => ⟨S_, .f32⟩
  | 81 => ⟨S_, .f32⟩
  | 82 => ⟨S8x8x768x64, .f32⟩
  | 83 => ⟨S8x8x768x64, .f32⟩
  | 84 => ⟨S_, .f32⟩
  | 85 => ⟨S8x8x768x64, .f32⟩
  | 86 => ⟨S8x8x768x64, .f32⟩
  | 87 => ⟨S8x8x64x768, .f32⟩
  | 88 => ⟨S8x8x768x768, .f32⟩
  | 89 => ⟨S_, .f32⟩
  | 90 => ⟨S8x8x768x768, .f32⟩
  | 91 => ⟨S8x8x768x768, .f32⟩
  | 92 => ⟨S8x8x64x768, .f32⟩
  | 93 => ⟨S8x8x768x768, .f32⟩
  | 94 => ⟨S_, .f32⟩
  | 95 => ⟨S8x8x768x768, .f32⟩
  | 96 => ⟨S8x8x768x768, .f32⟩
  | 97 => ⟨S8x8x768x768, .f32⟩
  | 98 => ⟨S8x1x1x768, .i1⟩
  | 99 => ⟨S_, .f32⟩
  | 100 => ⟨S_, .f32⟩
  | 101 => ⟨S8x8x768x768, .i1⟩
  | 102 => ⟨S8x8x768x768, .f32⟩
  | 103 => ⟨S8x8x768x768, .f32⟩
  | 104 => ⟨S_, .f32⟩
  | 105 => ⟨S8x8x768, .f32⟩
  | 106 => ⟨S_, .f32⟩
  | 107 => ⟨S8x8x768, .f32⟩
  | 108 => ⟨S8x8x768, .f32⟩
  | 109 => ⟨S8x8x768x1, .f32⟩
  | 110 => ⟨S8x8x768x768, .f32⟩
  | 111 => ⟨S8x8x768x768, .f32⟩
  | 112 => ⟨S8x8x768x768, .f32⟩
  | 113 => ⟨S_, .f32⟩
  | 114 => ⟨S8x8x768, .f32⟩
  | 115 => ⟨S8x8x768x1, .f32⟩
  | 116 => ⟨S8x8x768x768, .f32⟩
  | 117 => ⟨S8x8x768x768, .f32⟩
  | 118 => ⟨S8x8x768x64, .f32⟩
  | 119 => ⟨S8x768x8x64, .f32⟩
  | 120 => ⟨S8x768x512, .f32⟩
  | 121 => ⟨S8x768x512, .f32⟩
  | 122 => ⟨S1x1x512, .f32⟩
  | 123 => ⟨S8x768x512, .f32⟩
  | 124 => ⟨S8x768x512, .f32⟩
  | 125 => ⟨S2x4x3x256x512, .f32⟩
  | 126 => ⟨S2x4x1x256x512, .f32⟩
  | 127 => ⟨S2x4x256x512, .f32⟩
  | _ => ⟨S2x256x512, .f32⟩

abbrev hbmTy0_2 (i : Nat) : BufTy := match i % 128 with
  | 0 => ⟨S2048x512, .f32⟩
  | _ => ⟨S2x256x512, .f32⟩

abbrev hbmTy (i : Nat) : BufTy := match i / 128 with
  | 0 => hbmTy0_0 i
  | 1 => hbmTy0_1 i
  | 2 => hbmTy0_2 i
  | _ => ⟨S2x256x512, .f32⟩

abbrev bufTy : (tb : Table) → Fin (tcTables nBuf tb) → BufTy
  | .hbm, ⟨i, _⟩ => hbmTy i
  | _, _ => ⟨S2x256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_cst : Ref sig .tc := ⟨.hbm, 13, rfl⟩
abbrev main_v0 : Ref sig .tc := ⟨.hbm, 14, rfl⟩
abbrev main_cst_0 : Ref sig .tc := ⟨.hbm, 15, rfl⟩
abbrev main_v1 : Ref sig .tc := ⟨.hbm, 16, rfl⟩
abbrev main_v2 : Ref sig .tc := ⟨.hbm, 17, rfl⟩
abbrev main_cst_1 : Ref sig .tc := ⟨.hbm, 18, rfl⟩
abbrev main_v3 : Ref sig .tc := ⟨.hbm, 19, rfl⟩
abbrev main_cst_2 : Ref sig .tc := ⟨.hbm, 20, rfl⟩
abbrev main_v4 : Ref sig .tc := ⟨.hbm, 21, rfl⟩
abbrev main_v5 : Ref sig .tc := ⟨.hbm, 22, rfl⟩
abbrev main_cst_3 : Ref sig .tc := ⟨.hbm, 23, rfl⟩
abbrev main_v6 : Ref sig .tc := ⟨.hbm, 24, rfl⟩
abbrev main_cst_4 : Ref sig .tc := ⟨.hbm, 25, rfl⟩
abbrev main_v7 : Ref sig .tc := ⟨.hbm, 26, rfl⟩
abbrev main_v8 : Ref sig .tc := ⟨.hbm, 27, rfl⟩
abbrev main_cst_5 : Ref sig .tc := ⟨.hbm, 28, rfl⟩
abbrev main_v9 : Ref sig .tc := ⟨.hbm, 29, rfl⟩
abbrev main_cst_6 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_cst_7 : Ref sig .tc := ⟨.hbm, 41, rfl⟩
abbrev main_cst_8 : Ref sig .tc := ⟨.hbm, 42, rfl⟩
abbrev main_call0_v0 : Ref sig .tc := ⟨.hbm, 43, rfl⟩
abbrev main_call0_v1 : Ref sig .tc := ⟨.hbm, 44, rfl⟩
abbrev main_call0_v2 : Ref sig .tc := ⟨.hbm, 45, rfl⟩
abbrev main_call0_v3 : Ref sig .tc := ⟨.hbm, 46, rfl⟩
abbrev main_call0_v4 : Ref sig .tc := ⟨.hbm, 47, rfl⟩
abbrev main_v20 : Ref sig .tc := ⟨.hbm, 48, rfl⟩
abbrev main_cst_9 : Ref sig .tc := ⟨.hbm, 49, rfl⟩
abbrev main_cst_10 : Ref sig .tc := ⟨.hbm, 50, rfl⟩
abbrev main_call1_v0 : Ref sig .tc := ⟨.hbm, 51, rfl⟩
abbrev main_call1_v1 : Ref sig .tc := ⟨.hbm, 52, rfl⟩
abbrev main_call1_v2 : Ref sig .tc := ⟨.hbm, 53, rfl⟩
abbrev main_call1_v3 : Ref sig .tc := ⟨.hbm, 54, rfl⟩
abbrev main_call1_v4 : Ref sig .tc := ⟨.hbm, 55, rfl⟩
abbrev main_v21 : Ref sig .tc := ⟨.hbm, 56, rfl⟩
abbrev main_v22 : Ref sig .tc := ⟨.hbm, 57, rfl⟩
abbrev main_v23 : Ref sig .tc := ⟨.hbm, 58, rfl⟩
abbrev main_cst_11 : Ref sig .tc := ⟨.hbm, 59, rfl⟩
abbrev main_v24 : Ref sig .tc := ⟨.hbm, 60, rfl⟩
abbrev main_v25 : Ref sig .tc := ⟨.hbm, 61, rfl⟩
abbrev main_v26 : Ref sig .tc := ⟨.hbm, 62, rfl⟩
abbrev main_cst_12 : Ref sig .tc := ⟨.hbm, 63, rfl⟩
abbrev main_v27 : Ref sig .tc := ⟨.hbm, 64, rfl⟩
abbrev main_cst_13 : Ref sig .tc := ⟨.hbm, 65, rfl⟩
abbrev main_v28 : Ref sig .tc := ⟨.hbm, 66, rfl⟩
abbrev main_v29 : Ref sig .tc := ⟨.hbm, 67, rfl⟩
abbrev main_v30 : Ref sig .tc := ⟨.hbm, 68, rfl⟩
abbrev main_v31 : Ref sig .tc := ⟨.hbm, 69, rfl⟩
abbrev main_v32 : Ref sig .tc := ⟨.hbm, 70, rfl⟩
abbrev main_v33 : Ref sig .tc := ⟨.hbm, 71, rfl⟩
abbrev main_cst_14 : Ref sig .tc := ⟨.hbm, 72, rfl⟩
abbrev main_v34 : Ref sig .tc := ⟨.hbm, 73, rfl⟩
abbrev main_v35 : Ref sig .tc := ⟨.hbm, 74, rfl⟩
abbrev main_v36 : Ref sig .tc := ⟨.hbm, 75, rfl⟩
abbrev main_v37 : Ref sig .tc := ⟨.hbm, 76, rfl⟩
abbrev main_v38 : Ref sig .tc := ⟨.hbm, 77, rfl⟩
abbrev main_v39 : Ref sig .tc := ⟨.hbm, 78, rfl⟩
abbrev main_c : Ref sig .tc := ⟨.hbm, 79, rfl⟩
abbrev main_v40 : Ref sig .tc := ⟨.hbm, 80, rfl⟩
abbrev main_v41 : Ref sig .tc := ⟨.hbm, 81, rfl⟩
abbrev main_v42 : Ref sig .tc := ⟨.hbm, 82, rfl⟩
abbrev main_v43 : Ref sig .tc := ⟨.hbm, 83, rfl⟩
abbrev main_cst_15 : Ref sig .tc := ⟨.hbm, 84, rfl⟩
abbrev main_v44 : Ref sig .tc := ⟨.hbm, 85, rfl⟩
abbrev main_v45 : Ref sig .tc := ⟨.hbm, 86, rfl⟩
abbrev main_v46 : Ref sig .tc := ⟨.hbm, 87, rfl⟩
abbrev main_v47 : Ref sig .tc := ⟨.hbm, 88, rfl⟩
abbrev main_v48 : Ref sig .tc := ⟨.hbm, 89, rfl⟩
abbrev main_values : Ref sig .tc := ⟨.hbm, 90, rfl⟩
abbrev main_indices : Ref sig .tc := ⟨.hbm, 91, rfl⟩
abbrev main_v49 : Ref sig .tc := ⟨.hbm, 92, rfl⟩
abbrev main_v50 : Ref sig .tc := ⟨.hbm, 93, rfl⟩
abbrev main_v51 : Ref sig .tc := ⟨.hbm, 94, rfl⟩
abbrev main_v52 : Ref sig .tc := ⟨.hbm, 95, rfl⟩
abbrev main_v53 : Ref sig .tc := ⟨.hbm, 96, rfl⟩
abbrev main_v54 : Ref sig .tc := ⟨.hbm, 97, rfl⟩
abbrev main_v55 : Ref sig .tc := ⟨.hbm, 98, rfl⟩
abbrev main_v56 : Ref sig .tc := ⟨.hbm, 99, rfl⟩
abbrev main_v57 : Ref sig .tc := ⟨.hbm, 100, rfl⟩
abbrev main_v58 : Ref sig .tc := ⟨.hbm, 101, rfl⟩
abbrev main_c_16 : Ref sig .tc := ⟨.hbm, 102, rfl⟩
abbrev main_v59 : Ref sig .tc := ⟨.hbm, 103, rfl⟩
abbrev main_v60 : Ref sig .tc := ⟨.hbm, 104, rfl⟩
abbrev main_v61 : Ref sig .tc := ⟨.hbm, 105, rfl⟩
abbrev main_c_17 : Ref sig .tc := ⟨.hbm, 106, rfl⟩
abbrev main_v62 : Ref sig .tc := ⟨.hbm, 107, rfl⟩
abbrev main_v63 : Ref sig .tc := ⟨.hbm, 108, rfl⟩
abbrev main_c_18 : Ref sig .tc := ⟨.hbm, 109, rfl⟩
abbrev main_v64 : Ref sig .tc := ⟨.hbm, 110, rfl⟩
abbrev main_v65 : Ref sig .tc := ⟨.hbm, 111, rfl⟩
abbrev main_v66 : Ref sig .tc := ⟨.hbm, 112, rfl⟩
abbrev main_c_19 : Ref sig .tc := ⟨.hbm, 113, rfl⟩
abbrev main_v67 : Ref sig .tc := ⟨.hbm, 114, rfl⟩
abbrev main_v68 : Ref sig .tc := ⟨.hbm, 115, rfl⟩
abbrev main_c_20 : Ref sig .tc := ⟨.hbm, 116, rfl⟩
abbrev main_v69 : Ref sig .tc := ⟨.hbm, 117, rfl⟩
abbrev main_v70 : Ref sig .tc := ⟨.hbm, 118, rfl⟩
abbrev main_v71 : Ref sig .tc := ⟨.hbm, 119, rfl⟩
abbrev main_v72 : Ref sig .tc := ⟨.hbm, 120, rfl⟩
abbrev main_v73 : Ref sig .tc := ⟨.hbm, 121, rfl⟩
abbrev main_v74 : Ref sig .tc := ⟨.hbm, 122, rfl⟩
abbrev main_v75 : Ref sig .tc := ⟨.hbm, 123, rfl⟩
abbrev main_v76 : Ref sig .tc := ⟨.hbm, 124, rfl⟩
abbrev main_c_21 : Ref sig .tc := ⟨.hbm, 125, rfl⟩
abbrev main_v77 : Ref sig .tc := ⟨.hbm, 126, rfl⟩
abbrev main_v78 : Ref sig .tc := ⟨.hbm, 127, rfl⟩
abbrev main_c_22 : Ref sig .tc := ⟨.hbm, 128, rfl⟩
abbrev main_v79 : Ref sig .tc := ⟨.hbm, 129, rfl⟩
abbrev main_v80 : Ref sig .tc := ⟨.hbm, 130, rfl⟩
abbrev main_v81 : Ref sig .tc := ⟨.hbm, 131, rfl⟩
abbrev main_c_23 : Ref sig .tc := ⟨.hbm, 132, rfl⟩
abbrev main_v82 : Ref sig .tc := ⟨.hbm, 133, rfl⟩
abbrev main_v83 : Ref sig .tc := ⟨.hbm, 134, rfl⟩
abbrev main_c_24 : Ref sig .tc := ⟨.hbm, 135, rfl⟩
abbrev main_v84 : Ref sig .tc := ⟨.hbm, 136, rfl⟩
abbrev main_v85 : Ref sig .tc := ⟨.hbm, 137, rfl⟩
abbrev main_v86 : Ref sig .tc := ⟨.hbm, 138, rfl⟩
abbrev main_v87 : Ref sig .tc := ⟨.hbm, 139, rfl⟩
abbrev main_v88 : Ref sig .tc := ⟨.hbm, 140, rfl⟩
abbrev main_v89 : Ref sig .tc := ⟨.hbm, 141, rfl⟩
abbrev main_v90 : Ref sig .tc := ⟨.hbm, 142, rfl⟩
abbrev main_v91 : Ref sig .tc := ⟨.hbm, 143, rfl⟩
abbrev main_c_25 : Ref sig .tc := ⟨.hbm, 144, rfl⟩
abbrev main_v92 : Ref sig .tc := ⟨.hbm, 145, rfl⟩
abbrev main_v93 : Ref sig .tc := ⟨.hbm, 146, rfl⟩
abbrev main_c_26 : Ref sig .tc := ⟨.hbm, 147, rfl⟩
abbrev main_v94 : Ref sig .tc := ⟨.hbm, 148, rfl⟩
abbrev main_v95 : Ref sig .tc := ⟨.hbm, 149, rfl⟩
abbrev main_v96 : Ref sig .tc := ⟨.hbm, 150, rfl⟩
abbrev main_c_27 : Ref sig .tc := ⟨.hbm, 151, rfl⟩
abbrev main_v97 : Ref sig .tc := ⟨.hbm, 152, rfl⟩
abbrev main_v98 : Ref sig .tc := ⟨.hbm, 153, rfl⟩
abbrev main_c_28 : Ref sig .tc := ⟨.hbm, 154, rfl⟩
abbrev main_v99 : Ref sig .tc := ⟨.hbm, 155, rfl⟩
abbrev main_v100 : Ref sig .tc := ⟨.hbm, 156, rfl⟩
abbrev main_v101 : Ref sig .tc := ⟨.hbm, 157, rfl⟩
abbrev main_v102 : Ref sig .tc := ⟨.hbm, 158, rfl⟩
abbrev main_v103 : Ref sig .tc := ⟨.hbm, 159, rfl⟩
abbrev main_v104 : Ref sig .tc := ⟨.hbm, 160, rfl⟩
abbrev main_v105 : Ref sig .tc := ⟨.hbm, 161, rfl⟩
abbrev main_v106 : Ref sig .tc := ⟨.hbm, 162, rfl⟩
abbrev main_v107 : Ref sig .tc := ⟨.hbm, 163, rfl⟩
abbrev main_v108 : Ref sig .tc := ⟨.hbm, 164, rfl⟩
abbrev main_v109 : Ref sig .tc := ⟨.hbm, 165, rfl⟩
abbrev main_v110 : Ref sig .tc := ⟨.hbm, 166, rfl⟩
abbrev main_v111 : Ref sig .tc := ⟨.hbm, 167, rfl⟩
abbrev main_v112 : Ref sig .tc := ⟨.hbm, 168, rfl⟩
abbrev main_v113 : Ref sig .tc := ⟨.hbm, 169, rfl⟩
abbrev main_v114 : Ref sig .tc := ⟨.hbm, 170, rfl⟩
abbrev main_v115 : Ref sig .tc := ⟨.hbm, 171, rfl⟩
abbrev main_v116 : Ref sig .tc := ⟨.hbm, 172, rfl⟩
abbrev main_v117 : Ref sig .tc := ⟨.hbm, 173, rfl⟩
abbrev main_v118 : Ref sig .tc := ⟨.hbm, 174, rfl⟩
abbrev main_v119 : Ref sig .tc := ⟨.hbm, 175, rfl⟩
abbrev main_v120 : Ref sig .tc := ⟨.hbm, 176, rfl⟩
abbrev main_v121 : Ref sig .tc := ⟨.hbm, 177, rfl⟩
abbrev main_v122 : Ref sig .tc := ⟨.hbm, 178, rfl⟩
abbrev main_v123 : Ref sig .tc := ⟨.hbm, 179, rfl⟩
abbrev main_v124 : Ref sig .tc := ⟨.hbm, 180, rfl⟩
abbrev main_v125 : Ref sig .tc := ⟨.hbm, 181, rfl⟩
abbrev main_v126 : Ref sig .tc := ⟨.hbm, 182, rfl⟩
abbrev main_cst_29 : Ref sig .tc := ⟨.hbm, 183, rfl⟩
abbrev main_cst_30 : Ref sig .tc := ⟨.hbm, 184, rfl⟩
abbrev main_call2_v0 : Ref sig .tc := ⟨.hbm, 185, rfl⟩
abbrev main_call2_v1 : Ref sig .tc := ⟨.hbm, 186, rfl⟩
abbrev main_call2_v2 : Ref sig .tc := ⟨.hbm, 187, rfl⟩
abbrev main_call2_v3 : Ref sig .tc := ⟨.hbm, 188, rfl⟩
abbrev main_call2_v4 : Ref sig .tc := ⟨.hbm, 189, rfl⟩
abbrev main_v127 : Ref sig .tc := ⟨.hbm, 190, rfl⟩
abbrev main_cst_31 : Ref sig .tc := ⟨.hbm, 191, rfl⟩
abbrev main_cst_32 : Ref sig .tc := ⟨.hbm, 192, rfl⟩
abbrev main_call3_v0 : Ref sig .tc := ⟨.hbm, 193, rfl⟩
abbrev main_call3_v1 : Ref sig .tc := ⟨.hbm, 194, rfl⟩
abbrev main_call3_v2 : Ref sig .tc := ⟨.hbm, 195, rfl⟩
abbrev main_call3_v3 : Ref sig .tc := ⟨.hbm, 196, rfl⟩
abbrev main_call3_v4 : Ref sig .tc := ⟨.hbm, 197, rfl⟩
abbrev main_v128 : Ref sig .tc := ⟨.hbm, 198, rfl⟩
abbrev main_cst_33 : Ref sig .tc := ⟨.hbm, 199, rfl⟩
abbrev main_cst_34 : Ref sig .tc := ⟨.hbm, 200, rfl⟩
abbrev main_call4_v0 : Ref sig .tc := ⟨.hbm, 201, rfl⟩
abbrev main_call4_v1 : Ref sig .tc := ⟨.hbm, 202, rfl⟩
abbrev main_call4_v2 : Ref sig .tc := ⟨.hbm, 203, rfl⟩
abbrev main_call4_v3 : Ref sig .tc := ⟨.hbm, 204, rfl⟩
abbrev main_call4_v4 : Ref sig .tc := ⟨.hbm, 205, rfl⟩
abbrev main_v129 : Ref sig .tc := ⟨.hbm, 206, rfl⟩
abbrev main_cst_35 : Ref sig .tc := ⟨.hbm, 207, rfl⟩
abbrev main_cst_36 : Ref sig .tc := ⟨.hbm, 208, rfl⟩
abbrev main_call5_v0 : Ref sig .tc := ⟨.hbm, 209, rfl⟩
abbrev main_call5_v1 : Ref sig .tc := ⟨.hbm, 210, rfl⟩
abbrev main_call5_v2 : Ref sig .tc := ⟨.hbm, 211, rfl⟩
abbrev main_call5_v3 : Ref sig .tc := ⟨.hbm, 212, rfl⟩
abbrev main_call5_v4 : Ref sig .tc := ⟨.hbm, 213, rfl⟩
abbrev main_v130 : Ref sig .tc := ⟨.hbm, 214, rfl⟩
abbrev main_v131 : Ref sig .tc := ⟨.hbm, 215, rfl⟩
abbrev main_v132 : Ref sig .tc := ⟨.hbm, 216, rfl⟩
abbrev main_cst_37 : Ref sig .tc := ⟨.hbm, 217, rfl⟩
abbrev main_v133 : Ref sig .tc := ⟨.hbm, 218, rfl⟩
abbrev main_v134 : Ref sig .tc := ⟨.hbm, 219, rfl⟩
abbrev main_v135 : Ref sig .tc := ⟨.hbm, 220, rfl⟩
abbrev main_v136 : Ref sig .tc := ⟨.hbm, 221, rfl⟩
abbrev main_cst_38 : Ref sig .tc := ⟨.hbm, 222, rfl⟩
abbrev main_v137 : Ref sig .tc := ⟨.hbm, 223, rfl⟩
abbrev main_v138 : Ref sig .tc := ⟨.hbm, 224, rfl⟩
abbrev main_v139 : Ref sig .tc := ⟨.hbm, 225, rfl⟩
abbrev main_v140 : Ref sig .tc := ⟨.hbm, 226, rfl⟩
abbrev main_cst_39 : Ref sig .tc := ⟨.hbm, 227, rfl⟩
abbrev main_call6_v0 : Ref sig .tc := ⟨.hbm, 228, rfl⟩
abbrev main_call6_v1 : Ref sig .tc := ⟨.hbm, 229, rfl⟩
abbrev main_call6_v2 : Ref sig .tc := ⟨.hbm, 230, rfl⟩
abbrev main_v141 : Ref sig .tc := ⟨.hbm, 231, rfl⟩
abbrev main_cst_40 : Ref sig .tc := ⟨.hbm, 232, rfl⟩
abbrev main_v142 : Ref sig .tc := ⟨.hbm, 233, rfl⟩
abbrev main_cst_41 : Ref sig .tc := ⟨.hbm, 234, rfl⟩
abbrev main_v143 : Ref sig .tc := ⟨.hbm, 235, rfl⟩
abbrev main_v144 : Ref sig .tc := ⟨.hbm, 236, rfl⟩
abbrev main_v145 : Ref sig .tc := ⟨.hbm, 237, rfl⟩
abbrev main_v146 : Ref sig .tc := ⟨.hbm, 238, rfl⟩
abbrev main_v147 : Ref sig .tc := ⟨.hbm, 239, rfl⟩
abbrev main_v148 : Ref sig .tc := ⟨.hbm, 240, rfl⟩
abbrev main_cst_42 : Ref sig .tc := ⟨.hbm, 241, rfl⟩
abbrev main_v149 : Ref sig .tc := ⟨.hbm, 242, rfl⟩
abbrev main_v150 : Ref sig .tc := ⟨.hbm, 243, rfl⟩
abbrev main_v151 : Ref sig .tc := ⟨.hbm, 244, rfl⟩
abbrev main_v152 : Ref sig .tc := ⟨.hbm, 245, rfl⟩
abbrev main_v153 : Ref sig .tc := ⟨.hbm, 246, rfl⟩
abbrev main_v154 : Ref sig .tc := ⟨.hbm, 247, rfl⟩
abbrev main_v155 : Ref sig .tc := ⟨.hbm, 248, rfl⟩
abbrev main_v156 : Ref sig .tc := ⟨.hbm, 249, rfl⟩
abbrev main_v157 : Ref sig .tc := ⟨.hbm, 250, rfl⟩
abbrev main_v158 : Ref sig .tc := ⟨.hbm, 251, rfl⟩
abbrev main_v159 : Ref sig .tc := ⟨.hbm, 252, rfl⟩
abbrev main_v160 : Ref sig .tc := ⟨.hbm, 253, rfl⟩
abbrev main_v161 : Ref sig .tc := ⟨.hbm, 254, rfl⟩
abbrev main_v162 : Ref sig .tc := ⟨.hbm, 255, rfl⟩
abbrev main_v163 : Ref sig .tc := ⟨.hbm, 256, rfl⟩

abbrev nD : Nat := 1
abbrev τ : Topo := Topo.v7x

variable {F : FTy → Type} [FloatOps F]
-- ==== Proof.Grid.lean ====
module

public import proofs.«01_k».proof.Proof.Gen.KernelIdeal.Points
public import proofs.«01_k».proof.Proof.Gen.KernelIdeal.Launch
public import proofs.«01_k».proof.Proof.Gen.KernelIdeal.Frame

/-!
The grid of the kernel: ten points, `t = 5 b + j`.  The point `j = 0` of each batch entry prepares the
scratch buffers, the very first point also casts the weights, and the points `j > 0` each write one block
of the result.  Here: which branch runs at which point, and that the rows the attention step reads are
inside the scratch buffers whatever word the excluded source is.
-/

@[expose] public section

noncomputable section

namespace Cert.KernelIdeal.Proof

open Idealize.ShloMosaic Idealize.ShloMosaic.TcCoe Idealize.ShloMosaic.Tactic
open Idealize.SL Idealize.SL.Sem
open Cert.KernelIdeal.Gen

/-- The branch that casts the weights is taken. -/
abbrev Casts (i : grid0.Coords) : Prop :=
  (Scalar.cmpi .ne (Scalar.extui (Scalar.andi (Scalar.cmpi .eq (BitVec.ofNat 32 (i 0).val) 0#32)
    (Scalar.cmpi .eq (BitVec.ofNat 32 (i 1).val) 0#32))) 0#32) = 1#1

/-- The branch that prepares queries, keys, values and the selection is taken. -/
abbrev Prepares (i : grid0.Coords) : Prop :=
  (Scalar.cmpi .ne (Scalar.extui (Scalar.cmpi .eq (BitVec.ofNat 32 (i 1).val) 0#32)) 0#32) = 1#1

/-- The branch that attends and writes a block of the result is taken. -/
abbrev Attends (i : grid0.Coords) : Prop := k0_cond3 i = 1#1

theorem casts_iff : ∀ t : Fin cfg0.N, Casts (grid0.coords t) ↔ t.val = 0 :=
  (by decide +kernel : ∀ t : Fin grid0.N, Casts (grid0.coords t) ↔ t.val = 0)

theorem prepares_iff : ∀ t : Fin cfg0.N, Prepares (grid0.coords t) ↔ t.val % 5 = 0 :=
  (by decide +kernel : ∀ t : Fin grid0.N, Prepares (grid0.coords t) ↔ t.val % 5 = 0)

theorem attends_iff : ∀ t : Fin cfg0.N, Attends (grid0.coords t) ↔ t.val % 5 ≠ 0 :=
  (by decide +kernel : ∀ t : Fin grid0.N, Attends (grid0.coords t) ↔ t.val % 5 ≠ 0)

/-- At a preparing point the result's window is idle and nothing is written back from it. -/
theorem out_idle : ∀ t : Fin cfg0.N, t.val % 5 = 0 → cfg0.idle 13 (grid0.coords t) = true := by decide +kernel
theorem out_unflushed : ∀ t : Fin cfg0.N, t.val % 5 = 0 → (cfg0.win 13).flush t = false := by decide +kernel
theorem out_live : ∀ t : Fin cfg0.N, t.val % 5 ≠ 0 → cfg0.idle 13 (grid0.coords t) = false := by decide +kernel

/-- The row block of the source at slot `w` of the attended ones: its number, `w` or `w + 1`, times 256. -/
theorem slot_row_le (v : BitVec 32) (w : BitVec 32) (hw : w.toNat ≤ 2) :
    (Scalar.indexCast (Scalar.muli (Scalar.addi w (Scalar.extui (Scalar.cmpi .sle v w))) 256#32) :
      BitVec 32).toNat + 256 ≤ 1024 := by
  have hb : ∀ b : BitVec 1, ∀ w : Fin 3, (Scalar.indexCast (Scalar.muli (Scalar.addi (BitVec.ofNat 32 w.val)
      (Scalar.extui b)) 256#32) : BitVec 32).toNat + 256 ≤ 1024 := by decide +kernel
  have h := hb (Scalar.cmpi .sle v w) ⟨w.toNat, by omega⟩
  simpa using h

/-- Every word passes the kernel's check of the rows it attends to. -/
theorem chk_all (i : grid0.Coords) (v : BitVec 32) : k0_chk1 i v := by
  unfold k0_chk1
  refine ⟨?_, ?_, ?_, ?_, ?_, ?_, ?_, ?_⟩ <;> intro _ r a <;> fin_cases r <;> fin_cases a <;>
    first
      | exact slot_row_le v _ (by decide)
      | exact Nat.le_of_ble_eq_true rfl

end Cert.KernelIdeal.Proof

end
-- ==== Proof.Runs.lean ====
module

public import proofs.«01_k».proof.Proof.Grid
public import proofs.«01_k».proof.Proof.Gen.KernelIdeal.Skeleton
public import Idealize.ShloMosaic.Lib.Exec

/-!
The kernel's body, run once per kind of grid point.  Each run says: given the buffers at the contents
named, the body ends with the inputs as they were and with the stored pieces listed, latest first.  The
lists are the data of the run; what is in them is read in later modules.
-/

@[expose] public section

set_option maxRecDepth 16384

noncomputable section

namespace Cert.KernelIdeal.Proof

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F] [Named F]

local notation "𝕄" => MT nD τ sig Unit (Elt F) ℕ (UR sig nD τ) ℕ

/-- The contents of the thirteen input blocks. -/
structure Blocks (F : FTy → Type) where
  x0 : Vec F S1x256x512 .f32
  x1 : Vec F S1x256x512 .f32
  x2 : Vec F S1x256x512 .f32
  x3 : Vec F S1x256x512 .f32
  m0 : Vec F S1x256x256 .f32
  m1 : Vec F S1x256x256 .f32
  m2 : Vec F S1x256x256 .f32
  m3 : Vec F S1x256x256 .f32
  wqkv : Vec F S512x1536 .f32
  winner : Vec F S256x1024 .f32
  wouter : Vec F S256x1024 .f32
  wout : Vec F S512x512 .f32
  bout : Vec F S1x512 .f32

/-- The contents of the three buffers of weights in the narrow format. -/
structure Narrow (F : FTy → Type) where
  wqkv : Vec F S512x1536 .bf16
  winner : Vec F S256x1024 .bf16
  wout : Vec F S512x512 .bf16

/-- The pieces a preparing point stores: queries, keys, values, selection, means, and the narrow weights. -/
structure PrepPieces (F : FTy → Type) where
  q : List (View.Piece (Elt F) S1024x1024 .bf16)
  k : List (View.Piece (Elt F) S1024x1024 .bf16)
  v : List (View.Piece (Elt F) S1024x1024 .bf16)
  excl : List (View.Piece (Elt F) S8x128 .i32)
  means : List (View.Piece (Elt F) S8x256 .f32)
  wqkv : List (View.Piece (Elt F) S512x1536 .bf16)
  winner : List (View.Piece (Elt F) S256x1024 .bf16)
  wout : List (View.Piece (Elt F) S512x512 .bf16)

section Held
variable (c : Dev nD) {s : Shape} {e : EltTy} (M : Memref sig .tc .vmem s e)

/-- The whole buffer `M` at contents `x`. -/
def held (h : M.IsWhole) (x : Vec F s e) : sProp 𝕄 :=
  M.view.loc (c : Thread nD τ) ↦[M.view.set]{fullShare} h.unread x

/-- The whole buffer `M` at some contents with the pieces `L` written over them. -/
def wrote (L : List (View.Piece (Elt F) s e)) : sProp 𝕄 :=
  iprop(∃ f, M.view.loc (c : Thread nD τ) ↦[M.view.set]{fullShare} M.view.writes (Elt F) f L)

/-- The buffer `M` at some contents. -/
def free : sProp 𝕄 := iprop(∃ f, M.view.loc (c : Thread nD τ) ↦[M.view.set]{fullShare} f)

/-- Owning a whole memref at `x` is holding it at `x`. -/
theorem owns_held (h : M.IsWhole) (x : Vec F s e) :
    (owns (c : Thread nD τ) M fullShare x : sProp 𝕄) ⊢ held c M h x := by
  unfold owns held
  iintro ⟨%f, %hf, H⟩
  obtain rfl := h.eq_unread hf
  iexact H

theorem held_owns (h : M.IsWhole) (x : Vec F s e) :
    held c M h x ⊢ (owns (c : Thread nD τ) M fullShare x : sProp 𝕄) := by
  unfold owns held
  iintro H
  iexists _; isplitr
  · ipureintro; exact h.read_unread _
  iexact H

/-- Pieces that cover the buffer determine its contents: the canonical ones. -/
theorem wrote_owns (L : List (View.Piece (Elt F) s e)) (x : Vec F s e)
    (hx : ∀ f, M.view.read (Elt F) (M.view.writes (Elt F) f L) = x) :
    wrote c M L ⊢ (owns (c : Thread nD τ) M fullShare x : sProp 𝕄) := by
  unfold owns wrote
  iintro ⟨%f, H⟩
  iexists _; isplitr
  · ipureintro; exact hx f
  iexact H

end Held

section Runs

variable (c : Dev nD) (i : grid0.Coords)
  (a2 : Memref sig .tc .vmem S1x256x512 .f32) (h2 : a2.IsWhole) (a3 : Memref sig .tc .vmem S1x256x512 .f32) (h3 : a3.IsWhole)
  (a4 : Memref sig .tc .vmem S1x256x512 .f32) (h4 : a4.IsWhole) (a5 : Memref sig .tc .vmem S1x256x512 .f32) (h5 : a5.IsWhole)
  (a6 : Memref sig .tc .vmem S1x256x256 .f32) (h6 : a6.IsWhole) (a7 : Memref sig .tc .vmem S1x256x256 .f32) (h7 : a7.IsWhole)
  (a8 : Memref sig .tc .vmem S1x256x256 .f32) (h8 : a8.IsWhole) (a9 : Memref sig .tc .vmem S1x256x256 .f32) (h9 : a9.IsWhole)
  (a10 : Memref sig .tc .vmem S512x1536 .f32) (h10 : a10.IsWhole) (a11 : Memref sig .tc .vmem S256x1024 .f32) (h11 : a11.IsWhole)
  (a12 : Memref sig .tc .vmem S256x1024 .f32) (h12 : a12.IsWhole) (a13 : Memref sig .tc .vmem S512x512 .f32) (h13 : a13.IsWhole)
  (a14 : Memref sig .tc .vmem S1x512 .f32) (h14 : a14.IsWhole) (a15 : Memref sig .tc .vmem S256x512 .f32) (h15 : a15.IsWhole)
  (a16 : Memref sig .tc .vmem S1024x1024 .bf16) (h16 : a16.IsWhole) (a17 : Memref sig .tc .vmem S1024x1024 .bf16) (h17 : a17.IsWhole)
  (a18 : Memref sig .tc .vmem S1024x1024 .bf16) (h18 : a18.IsWhole) (a19 : Memref sig .tc .vmem S8x128 .i32) (h19 : a19.IsWhole)
  (a20 : Memref sig .tc .vmem S8x256 .f32) (h20 : a20.IsWhole) (a21 : Memref sig .tc .vmem S512x1536 .bf16) (h21 : a21.IsWhole)
  (a22 : Memref sig .tc .vmem S256x1024 .bf16) (h22 : a22.IsWhole) (a23 : Memref sig .tc .vmem S512x512 .bf16) (h23 : a23.IsWhole)

/-- The thirteen input buffers at the contents `B`. -/
def inputs (B : Blocks F) : sProp 𝕄 :=
  iprop(held c a2 h2 B.x0 ∗ held c a3 h3 B.x1 ∗ held c a4 h4 B.x2 ∗ held c a5 h5 B.x3 ∗ held c a6 h6 B.m0
    ∗ held c a7 h7 B.m1 ∗ held c a8 h8 B.m2 ∗ held c a9 h9 B.m3 ∗ held c a10 h10 B.wqkv ∗ held c a11 h11 B.winner
    ∗ held c a12 h12 B.wouter ∗ held c a13 h13 B.wout ∗ held c a14 h14 B.bout)

/-- The three buffers of narrow weights at the contents `W`. -/
def weights (W : Narrow F) : sProp 𝕄 :=
  iprop(held c a21 h21 W.wqkv ∗ held c a22 h22 W.winner ∗ held c a23 h23 W.wout)

set_option maxHeartbeats 4000000 in
/-- The run at a preparing point that finds the narrow weights at `W`. -/
def runPrep (B : Blocks F) (W : Narrow F) (hA : ¬Casts i) (hP : Prepares i) (hB : ¬Attends i) :
    { L : PrepPieces F // ∀ (E : Set ℕ) (K : PUnit → sProp 𝕄),
      iprop(inputs c a2 h2 a3 h3 a4 h4 a5 h5 a6 h6 a7 h7 a8 h8 a9 h9 a10 h10 a11 h11 a12 h12 a13 h13 a14 h14 B
        ∗ (free c a16 ∗ free c a17 ∗ free c a18 ∗ free c a19 ∗ free c a20) ∗ weights c a21 h21 a22 h22 a23 h23 W
        ∗ (iprop(inputs c a2 h2 a3 h3 a4 h4 a5 h5 a6 h6 a7 h7 a8 h8 a9 h9 a10 h10 a11 h11 a12 h12 a13 h13 a14 h14 B
            ∗ (wrote c a16 L.q ∗ wrote c a17 L.k ∗ wrote c a18 L.v ∗ wrote c a19 L.excl ∗ wrote c a20 L.means)
            ∗ weights c a21 h21 a22 h22 a23 h23 W) -∗ K ⟨⟩))
      ⊢ wp frame (wpE (defs₀ (F := F)) Variants.none c none) E
          (cc0__fused_kernel i a2 h2 a3 h3 a4 h4 a5 h5 a6 h6 a7 h7 a8 h8 a9 h9 a10 h10 a11 h11 a12 h12 a13 h13 a14 h14
            a15 h15 a16 h16 a17 h17 a18 h18 a19 h19 a20 h20 a21 h21 a22 h22 a23 h23) K } := by
  refine ⟨⟨?q, ?k, ?v, ?e, ?mm, [], [], []⟩, fun E K => ?run⟩
  case run =>
    simp only [cc0__fused_kernel_eq_skeleton]; unfold cc0__fused_kernel_skel
    simp only [k0_part1_eq_skeleton, k0_part2_eq_skeleton, k0_part3_eq_skeleton, k0_part4_eq_skeleton, k0_part5_eq_skeleton,
      k0_part6_eq_skeleton, k0_part7_eq_skeleton, k0_part8_eq_skeleton, k0_part9_eq_skeleton, k0_part10_eq_skeleton,
      k0_part11_eq_skeleton, k0_part12_eq_skeleton]
    unfold inputs weights held free wrote
    iintro ⟨⟨H2, H3, H4, H5, H6, H7, H8, H9, H10, H11, H12, H13, H14⟩,
      ⟨⟨%f16, H16⟩, ⟨%f17, H17⟩, ⟨%f18, H18⟩, ⟨%f19, H19⟩, ⟨%f20, H20⟩⟩, ⟨H21, H22, H23⟩, Hk⟩
    sl_exec (disch := first | sl_exact hA | sl_exact hP | sl_exact hB)
    sl_step
    iapply Hk
    isplitl [H2 H3 H4 H5 H6 H7 H8 H9 H10 H11 H12 H13 H14]
    · iframe
    isplitr [H21 H22 H23]
    · isplitl [H16]; · iexists _; iexact H16
      isplitl [H17]; · iexists _; iexact H17
      isplitl [H18]; · iexists _; iexact H18
      isplitl [H19]; · iexists _; iexact H19
      iexists _; iexact H20
    iframe

set_option maxHeartbeats 4000000 in
/-- The run at the first point, which stores the narrow weights and then prepares from them. -/
def runCast (B : Blocks F) (hA : Casts i) (hP : Prepares i) (hB : ¬Attends i) :
    { L : PrepPieces F // ∀ (E : Set ℕ) (K : PUnit → sProp 𝕄),
      iprop(inputs c a2 h2 a3 h3 a4 h4 a5 h5 a6 h6 a7 h7 a8 h8 a9 h9 a10 h10 a11 h11 a12 h12 a13 h13 a14 h14 B
        ∗ (free c a16 ∗ free c a17 ∗ free c a18 ∗ free c a19 ∗ free c a20) ∗ (free c a21 ∗ free c a22 ∗ free c a23)
        ∗ (iprop(inputs c a2 h2 a3 h3 a4 h4 a5 h5 a6 h6 a7 h7 a8 h8 a9 h9 a10 h10 a11 h11 a12 h12 a13 h13 a14 h14 B
            ∗ (wrote c a16 L.q ∗ wrote c a17 L.k ∗ wrote c a18 L.v ∗ wrote c a19 L.excl ∗ wrote c a20 L.means)
            ∗ (wrote c a21 L.wqkv ∗ wrote c a22 L.winner ∗ wrote c a23 L.wout)) -∗ K ⟨⟩))
      ⊢ wp frame (wpE (defs₀ (F := F)) Variants.none c none) E
          (cc0__fused_kernel i a2 h2 a3 h3 a4 h4 a5 h5 a6 h6 a7 h7 a8 h8 a9 h9 a10 h10 a11 h11 a12 h12 a13 h13 a14 h14
            a15 h15 a16 h16 a17 h17 a18 h18 a19 h19 a20 h20 a21 h21 a22 h22 a23 h23) K } := by
  refine ⟨⟨?q, ?k, ?v, ?e, ?mm, ?wq, ?wi, ?wo⟩, fun E K => ?run⟩
  case run =>
    simp only [cc0__fused_kernel_eq_skeleton]; unfold cc0__fused_kernel_skel
    simp only [k0_part1_eq_skeleton, k0_part2_eq_skeleton, k0_part3_eq_skeleton, k0_part4_eq_skeleton, k0_part5_eq_skeleton,
      k0_part6_eq_skeleton, k0_part7_eq_skeleton, k0_part8_eq_skeleton, k0_part9_eq_skeleton, k0_part10_eq_skeleton,
      k0_part11_eq_skeleton, k0_part12_eq_skeleton]
    unfold inputs held free wrote
    iintro ⟨⟨H2, H3, H4, H5, H6, H7, H8, H9, H10, H11, H12, H13, H14⟩,
      ⟨⟨%f16, H16⟩, ⟨%f17, H17⟩, ⟨%f18, H18⟩, ⟨%f19, H19⟩, ⟨%f20, H20⟩⟩, ⟨⟨%f21, H21⟩, ⟨%f22, H22⟩, ⟨%f23, H23⟩⟩, Hk⟩
    sl_exec (disch := first | sl_exact hA | sl_exact hP | sl_exact hB)
    sl_exec (disch := first | sl_exact hA | sl_exact hP | sl_exact hB)
    sl_step
    iapply Hk
    isplitl [H2 H3 H4 H5 H6 H7 H8 H9 H10 H11 H12 H13 H14]
    · iframe
    isplitr [H21 H22 H23]
    · isplitl [H16]; · iexists _; iexact H16
      isplitl [H17]; · iexists _; iexact H17
      isplitl [H18]; · iexists _; iexact H18
      isplitl [H19]; · iexists _; iexact H19
      iexists _; iexact H20
    isplitl [H21]; · iexists _; iexact H21
    isplitl [H22]; · iexists _; iexact H22
    iexists _; iexact H23

end Runs

end Cert.KernelIdeal.Proof

end
-- ==== Proof.RunAttend.lean ====
module

public import proofs.«01_k».proof.Proof.Runs

/-!
The kernel's body at an attending point: the run that writes one block of the result.
-/

@[expose] public section

set_option maxRecDepth 16384

noncomputable section

namespace Cert.KernelIdeal.Proof

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F] [Named F]

local notation "𝕄" => MT nD τ sig Unit (Elt F) ℕ (UR sig nD τ) ℕ

section Runs

variable (c : Dev nD) (i : grid0.Coords)
  (a2 : Memref sig .tc .vmem S1x256x512 .f32) (h2 : a2.IsWhole) (a3 : Memref sig .tc .vmem S1x256x512 .f32) (h3 : a3.IsWhole)
  (a4 : Memref sig .tc .vmem S1x256x512 .f32) (h4 : a4.IsWhole) (a5 : Memref sig .tc .vmem S1x256x512 .f32) (h5 : a5.IsWhole)
  (a6 : Memref sig .tc .vmem S1x256x256 .f32) (h6 : a6.IsWhole) (a7 : Memref sig .tc .vmem S1x256x256 .f32) (h7 : a7.IsWhole)
  (a8 : Memref sig .tc .vmem S1x256x256 .f32) (h8 : a8.IsWhole) (a9 : Memref sig .tc .vmem S1x256x256 .f32) (h9 : a9.IsWhole)
  (a10 : Memref sig .tc .vmem S512x1536 .f32) (h10 : a10.IsWhole) (a11 : Memref sig .tc .vmem S256x1024 .f32) (h11 : a11.IsWhole)
  (a12 : Memref sig .tc .vmem S256x1024 .f32) (h12 : a12.IsWhole) (a13 : Memref sig .tc .vmem S512x512 .f32) (h13 : a13.IsWhole)
  (a14 : Memref sig .tc .vmem S1x512 .f32) (h14 : a14.IsWhole) (a15 : Memref sig .tc .vmem S256x512 .f32) (h15 : a15.IsWhole)
  (a16 : Memref sig .tc .vmem S1024x1024 .bf16) (h16 : a16.IsWhole) (a17 : Memref sig .tc .vmem S1024x1024 .bf16) (h17 : a17.IsWhole)
  (a18 : Memref sig .tc .vmem S1024x1024 .bf16) (h18 : a18.IsWhole) (a19 : Memref sig .tc .vmem S8x128 .i32) (h19 : a19.IsWhole)
  (a20 : Memref sig .tc .vmem S8x256 .f32) (h20 : a20.IsWhole) (a21 : Memref sig .tc .vmem S512x1536 .bf16) (h21 : a21.IsWhole)
  (a22 : Memref sig .tc .vmem S256x1024 .bf16) (h22 : a22.IsWhole) (a23 : Memref sig .tc .vmem S512x512 .bf16) (h23 : a23.IsWhole)

set_option maxHeartbeats 4000000 in
/-- The run at an attending point: from the queries `q`, keys `k`, values `v` with their column of ones, the
    selection `e`, the narrow output weights and the bias, the block of the result. -/
def runAttend (bout : Vec F S1x512 .f32) (q k v : Vec F S1024x1024 .bf16) (e : Vec F S8x128 .i32) (wout : Vec F S512x512 .bf16)
    (hA : ¬Casts i) (hP : ¬Prepares i) (hB : Attends i) :
    { L : List (View.Piece (Elt F) S256x512 .f32) // ∀ (E : Set ℕ) (K : PUnit → sProp 𝕄),
      iprop(held c a14 h14 bout ∗ free c a15 ∗ held c a16 h16 q ∗ held c a17 h17 k ∗ held c a18 h18 v
        ∗ held c a19 h19 e ∗ held c a23 h23 wout
        ∗ (iprop(held c a14 h14 bout ∗ wrote c a15 L ∗ held c a16 h16 q ∗ held c a17 h17 k ∗ held c a18 h18 v
            ∗ held c a19 h19 e ∗ held c a23 h23 wout) -∗ K ⟨⟩))
      ⊢ wp frame (wpE (defs₀ (F := F)) Variants.none c none) E
          (cc0__fused_kernel i a2 h2 a3 h3 a4 h4 a5 h5 a6 h6 a7 h7 a8 h8 a9 h9 a10 h10 a11 h11 a12 h12 a13 h13 a14 h14
            a15 h15 a16 h16 a17 h17 a18 h18 a19 h19 a20 h20 a21 h21 a22 h22 a23 h23) K } := by
  refine ⟨?L, fun E K => ?run⟩
  case run =>
    simp only [cc0__fused_kernel_eq_skeleton]; unfold cc0__fused_kernel_skel
    simp only [k0_part13_eq_skeleton, k0_part14_eq_skeleton, k0_part15_eq_skeleton, k0_part16_eq_skeleton, k0_part17_eq_skeleton,
      k0_part18_eq_skeleton, k0_part19_eq_skeleton, k0_part20_eq_skeleton, k0_part21_eq_skeleton, k0_part22_eq_skeleton]
    unfold held free wrote
    iintro ⟨H14, ⟨%f15, H15⟩, H16, H17, H18, H19, H23, Hk⟩
    sl_exec (disch := first | sl_exact hA | sl_exact hP | sl_exact hB | sl_exact (chk_all i _))
    sl_step
    iapply Hk
    isplitl [H14]; · iexact H14
    isplitl [H15]; · iexists _; iexact H15
    iframe

end Runs

end Cert.KernelIdeal.Proof

end
-- ==== Proof.Model.lean ====
module

public import proofs.«01_k».proof.Proof.RunAttend
public import Idealize.ShloMosaic.Lib.Pipeline.ReadBack

/-!
What the body computes, as functions of arrays: the rows of queries, keys and values a source contributes,
its mean, the excluded source, and a block of the result; and that the runs store exactly these.
-/

@[expose] public section

set_option maxRecDepth 65536

noncomputable section

namespace Cert.KernelIdeal.Proof

open Idealize.ShloMosaic Idealize.ShloMosaic.TcCoe Idealize.ShloMosaic.Tactic
open Idealize.SL Idealize.SL.Sem
open Cert.KernelIdeal.Gen

variable {F : FTy → Type} [FloatOps F] [Named F]

/-! ## The functions -/

/-- The weights in the narrow format. -/
def narrow (B : Blocks F) : Narrow F := ⟨k0_pay1 B.wqkv, k0_pay2 B.winner, k0_pay3 B.wout⟩

/-- A source's queries: per head 64 value queries beside 64 metadata queries, both scaled. -/
def qRows (x : Vec F S1x256x512 .f32) (m : Vec F S1x256x256 .f32) (W : Narrow F) : FVec F S256x1024 .bf16 :=
  k0_pay23 (k0_pay11 x W.wqkv) (k0_pay14 m W.winner) (Scalar.ofBits .bf16 0x3E00#16)

/-- A source's keys, laid out like the queries. -/
def kRows (x : Vec F S1x256x512 .f32) (m : Vec F S1x256x256 .f32) (W : Narrow F) : FVec F S256x1024 .bf16 :=
  k0_pay25 (k0_pay24 (k0_pay10 m W.winner) (k0_pay12 x W.wqkv))

/-- A source's values: per head 64 values, a column of ones and 63 columns of zeros. -/
def vRows (x : Vec F S1x256x512 .f32) (W : Narrow F) : FVec F S256x1024 .bf16 :=
  k0_pay26 k0_pay6 k0_pay7 (k0_pay15 (k0_pay13 x W.wqkv)) (k0_pay16 (k0_pay13 x W.wqkv)) (k0_pay17 (k0_pay13 x W.wqkv))
    (k0_pay18 (k0_pay13 x W.wqkv)) (k0_pay19 (k0_pay13 x W.wqkv)) (k0_pay20 (k0_pay13 x W.wqkv))
    (k0_pay21 (k0_pay13 x W.wqkv)) (k0_pay22 (k0_pay13 x W.wqkv))

/-- A source's metadata averaged over its rows. -/
def meanRow (m : Vec F S1x256x256 .f32) : FVec F S1x256 .f32 := k0_pay27 (k0_pay9 m)

/-- Pieces of 256 rows each stacked to 1024 rows. -/
def stack (r0 r1 r2 r3 : FVec F S256x1024 .bf16) : List (View.Piece (Elt F) S1024x1024 .bf16) :=
  [⟨Rect.unit ![768, 0] ![256, 1024] inb_S1024x1024_S256x1024_768_0, r3⟩,
   ⟨Rect.unit ![512, 0] ![256, 1024] inb_S1024x1024_S256x1024_512_0, r2⟩,
   ⟨Rect.unit ![256, 0] ![256, 1024] inb_S1024x1024_S256x1024_256_0, r1⟩,
   ⟨Rect.unit ![0, 0] ![256, 1024] inb_S1024x1024_S256x1024_0_0, r0⟩]

def qStack (B : Blocks F) (W : Narrow F) := stack (qRows B.x0 B.m0 W) (qRows B.x1 B.m1 W) (qRows B.x2 B.m2 W) (qRows B.x3 B.m3 W)
def kStack (B : Blocks F) (W : Narrow F) := stack (kRows B.x0 B.m0 W) (kRows B.x1 B.m1 W) (kRows B.x2 B.m2 W) (kRows B.x3 B.m3 W)
def vStack (B : Blocks F) (W : Narrow F) := stack (vRows B.x0 W) (vRows B.x1 W) (vRows B.x2 W) (vRows B.x3 W)

/-- The four means, as stored. -/
def meanStack (m0 m1 m2 m3 : Vec F S1x256x256 .f32) : List (View.Piece (Elt F) S8x256 .f32) :=
  [⟨Rect.unit ![3, 0] S1x256.size inb_S8x256_S1x256_3_0, meanRow m3⟩,
   ⟨Rect.unit ![2, 0] S1x256.size inb_S8x256_S1x256_2_0, meanRow m2⟩,
   ⟨Rect.unit ![1, 0] S1x256.size inb_S8x256_S1x256_1_0, meanRow m1⟩,
   ⟨Rect.unit ![0, 0] S1x256.size inb_S8x256_S1x256_0_0, meanRow m0⟩]

/-- The four means as one array. -/
def means (B : Blocks F) : Vec F S4x256 .f32 :=
  View.ld (View.canon (meanStack B.m0 B.m1 B.m2 B.m3)) (Rect.unit (s := S8x256) ![0, 0] S4x256.size inb_S8x256_S4x256_0_0)

/-- The source each source leaves out, from the means and the outer metadata weights, repeated over 128 columns. -/
def exclRows (mm : Vec F S4x256 .f32) (wo : Vec F S256x1024 .f32) : IVec S4x128 32 :=
  k0_pay4 (k0_pay121 (k0_pay114 (k0_pay111 mm wo) (k0_pay112 mm wo)) (k0_pay115 (k0_pay111 mm wo) (k0_pay112 mm wo))
    (k0_pay116 (k0_pay111 mm wo) (k0_pay112 mm wo)) (k0_pay117 (k0_pay111 mm wo) (k0_pay112 mm wo))
    (k0_pay118 (k0_pay111 mm wo) (k0_pay112 mm wo)) k0_pay119 (k0_pay120 (k0_pay111 mm wo) (k0_pay112 mm wo)))

def excl (B : Blocks F) : IVec S4x128 32 := exclRows (means B) B.wouter

/-- One head's part of a block of the result: from its queries, and the keys and values of the three sources attended to. -/
def headOut (q k0 k1 k2 v0 v1 v2 : FVec F S256x128 .bf16) : FVec F S256x64 .bf16 :=
  k0_pay127 (k0_pay122 q k0) (k0_pay123 q k1) (k0_pay124 q k2) (k0_pay125 q k0 k1) (k0_pay126 q k2) v0 v1 v2

/-- One head's part, its operands read at the offset `oq` of the queries and `ok` of the keys and values. -/
def headAt (oq : Fin 2 → ℕ) (hq : ∀ a, oq a + S256x128.size a ≤ S1024x1024.size a)
    (ok : Fin 3 → Fin 2 → ℕ) (hk : ∀ r a, ok r a + S256x128.size a ≤ S1024x1024.size a)
    (q k v : Vec F S1024x1024 .bf16) : FVec F S256x64 .bf16 :=
  headOut (View.ld q (Rect.unit (s := S1024x1024) oq S256x128.size hq))
    (View.ld k (Rect.unit (s := S1024x1024) (ok 0) S256x128.size (hk 0)))
    (View.ld k (Rect.unit (s := S1024x1024) (ok 1) S256x128.size (hk 1)))
    (View.ld k (Rect.unit (s := S1024x1024) (ok 2) S256x128.size (hk 2)))
    (View.ld v (Rect.unit (s := S1024x1024) (ok 0) S256x128.size (hk 0)))
    (View.ld v (Rect.unit (s := S1024x1024) (ok 1) S256x128.size (hk 1)))
    (View.ld v (Rect.unit (s := S1024x1024) (ok 2) S256x128.size (hk 2)))

/-- The heads side by side, times the output weights, plus the bias. -/
def outBlock (o0 o1 o2 o3 o4 o5 o6 o7 : FVec F S256x64 .bf16) (wout : Vec F S512x512 .bf16) (bout : Vec F S1x512 .f32) :
    FVec F S256x512 .f32 :=
  k0_pay5 (matmul dot_S256x512_S512x512_S256x512_1_0_0_1_n_n none
    (concatenate S256x512 1 [⟨S256x64, o0⟩, ⟨S256x64, o1⟩, ⟨S256x64, o2⟩, ⟨S256x64, o3⟩, ⟨S256x64, o4⟩, ⟨S256x64, o5⟩,
      ⟨S256x64, o6⟩, ⟨S256x64, o7⟩]
      concatenates_S256x64_S256x64_S256x64_S256x64_S256x64_S256x64_S256x64_S256x64_S256x512_d1)
    wout (constant S256x512 .f32 0x00000000#32)) bout

/-- The block of the result written at grid point `i` when the source left out is `e`. -/
def attBlock (i : grid0.Coords) (hB : Attends i) (e : BitVec 32) (q k v : Vec F S1024x1024 .bf16)
    (wout : Vec F S512x512 .bf16) (bout : Vec F S1x512 .f32) : FVec F S256x512 .f32 :=
  outBlock
    (headAt (k0_off2 i) (k0_off2_inb i hB) (fun r => k0_off3 e (k0_off3_at r).1 (k0_off3_at r).2) (k0_off3_inb i e (chk_all i e) hB) q k v)
    (headAt (k0_off4 i) (k0_off4_inb i hB) (fun r => k0_off5 e (k0_off5_at r).1 (k0_off5_at r).2) (k0_off5_inb i e (chk_all i e) hB) q k v)
    (headAt (k0_off6 i) (k0_off6_inb i hB) (fun r => k0_off7 e (k0_off7_at r).1 (k0_off7_at r).2) (k0_off7_inb i e (chk_all i e) hB) q k v)
    (headAt (k0_off8 i) (k0_off8_inb i hB) (fun r => k0_off9 e (k0_off9_at r).1 (k0_off9_at r).2) (k0_off9_inb i e (chk_all i e) hB) q k v)
    (headAt (k0_off10 i) (k0_off10_inb i hB) (fun r => k0_off11 e (k0_off11_at r).1 (k0_off11_at r).2) (k0_off11_inb i e (chk_all i e) hB) q k v)
    (headAt (k0_off12 i) (k0_off12_inb i hB) (fun r => k0_off13 e (k0_off13_at r).1 (k0_off13_at r).2) (k0_off13_inb i e (chk_all i e) hB) q k v)
    (headAt (k0_off14 i) (k0_off14_inb i hB) (fun r => k0_off15 e (k0_off15_at r).1 (k0_off15_at r).2) (k0_off15_inb i e (chk_all i e) hB) q k v)
    (headAt (k0_off16 i) (k0_off16_inb i hB) (fun r => k0_off17 e (k0_off17_at r).1 (k0_off17_at r).2) (k0_off17_inb i e (chk_all i e) hB) q k v)
    wout bout

/-- The word naming the source left out, as read at grid point `i`. -/
def exclWord (i : grid0.Coords) (hB : Attends i) (e : Vec F S8x128 .i32) : BitVec 32 :=
  extractAt ![0, 0] (View.ld e (Rect.unit (s := S8x128) (k0_off1 i) S1x1.size (k0_off1_inb i hB))) inpos_S1x1_p0_0

/-! ## The runs store them -/

section Runs

variable (c : Dev nD) (i : grid0.Coords)
  (a2 : Memref sig .tc .vmem S1x256x512 .f32) (h2 : a2.IsWhole) (a3 : Memref sig .tc .vmem S1x256x512 .f32) (h3 : a3.IsWhole)
  (a4 : Memref sig .tc .vmem S1x256x512 .f32) (h4 : a4.IsWhole) (a5 : Memref sig .tc .vmem S1x256x512 .f32) (h5 : a5.IsWhole)
  (a6 : Memref sig .tc .vmem S1x256x256 .f32) (h6 : a6.IsWhole) (a7 : Memref sig .tc .vmem S1x256x256 .f32) (h7 : a7.IsWhole)
  (a8 : Memref sig .tc .vmem S1x256x256 .f32) (h8 : a8.IsWhole) (a9 : Memref sig .tc .vmem S1x256x256 .f32) (h9 : a9.IsWhole)
  (a10 : Memref sig .tc .vmem S512x1536 .f32) (h10 : a10.IsWhole) (a11 : Memref sig .tc .vmem S256x1024 .f32) (h11 : a11.IsWhole)
  (a12 : Memref sig .tc .vmem S256x1024 .f32) (h12 : a12.IsWhole) (a13 : Memref sig .tc .vmem S512x512 .f32) (h13 : a13.IsWhole)
  (a14 : Memref sig .tc .vmem S1x512 .f32) (h14 : a14.IsWhole) (a15 : Memref sig .tc .vmem S256x512 .f32) (h15 : a15.IsWhole)
  (a16 : Memref sig .tc .vmem S1024x1024 .bf16) (h16 : a16.IsWhole) (a17 : Memref sig .tc .vmem S1024x1024 .bf16) (h17 : a17.IsWhole)
  (a18 : Memref sig .tc .vmem S1024x1024 .bf16) (h18 : a18.IsWhole) (a19 : Memref sig .tc .vmem S8x128 .i32) (h19 : a19.IsWhole)
  (a20 : Memref sig .tc .vmem S8x256 .f32) (h20 : a20.IsWhole) (a21 : Memref sig .tc .vmem S512x1536 .bf16) (h21 : a21.IsWhole)
  (a22 : Memref sig .tc .vmem S256x1024 .bf16) (h22 : a22.IsWhole) (a23 : Memref sig .tc .vmem S512x512 .bf16) (h23 : a23.IsWhole)

/-- An attending point stores the one block. -/
theorem runAttend_pieces (bout : Vec F S1x512 .f32) (q k v : Vec F S1024x1024 .bf16) (e : Vec F S8x128 .i32) (wout : Vec F S512x512 .bf16)
    (hA : ¬Casts i) (hP : ¬Prepares i) (hB : Attends i) :
    (runAttend c i a2 h2 a3 h3 a4 h4 a5 h5 a6 h6 a7 h7 a8 h8 a9 h9 a10 h10 a11 h11 a12 h12 a13 h13 a14 h14 a15 h15 a16 h16 a17 h17
      a18 h18 a19 h19 a20 h20 a21 h21 a22 h22 a23 h23 bout q k v e wout hA hP hB).1
      = [⟨Rect.unit ![0, 0] ![256, 512] inb_S256x512_S256x512_0_0, attBlock i hB (exclWord i hB e) q k v wout bout⟩] := by
  have h : (runAttend c i a2 h2 a3 h3 a4 h4 a5 h5 a6 h6 a7 h7 a8 h8 a9 h9 a10 h10 a11 h11 a12 h12 a13 h13 a14 h14 a15 h15 a16 h16 a17 h17
      a18 h18 a19 h19 a20 h20 a21 h21 a22 h22 a23 h23 bout q k v e wout hA hP hB).1
      = [⟨Rect.unit ![0, 0] ![256, 512] inb_S256x512_S256x512_0_0, attBlock i hB
          (exclWord i hB (a19.view.read (Elt F) (h19.unread e))) (a16.view.read (Elt F) (h16.unread q))
          (a17.view.read (Elt F) (h17.unread k)) (a18.view.read (Elt F) (h18.unread v))
          (View.ld (a23.view.read (Elt F) (h23.unread wout)) (Rect.unit ![0, 0] S512x512.size inb_S512x512_S512x512_0_0))
          (View.ld (a14.view.read (Elt F) (h14.unread bout)) (Rect.unit ![0, 0] S1x512.size inb_S1x512_S1x512_0_0))⟩] := rfl
  rw [h]
  simp only [Memref.IsWhole.read_unread]
  rw [View.ld_unit_lit _ _ (by decide), View.ld_unit_lit _ _ (by decide)]

/-- What a preparing point stores, its weights already narrow. -/
def prepPieces (B : Blocks F) (W : Narrow F) : PrepPieces F where
  q := qStack B W
  k := kStack B W
  v := vStack B W
  excl := [⟨Rect.unit ![0, 0] ![4, 128] inb_S8x128_S4x128_0_0, excl B⟩]
  means := meanStack B.m0 B.m1 B.m2 B.m3
  wqkv := []
  winner := []
  wout := []

/-- The blocks as a point reads them from its staging buffers. -/
def readBack (B : Blocks F) : Blocks F where
  x0 := View.ld (a2.view.read (Elt F) (h2.unread B.x0)) (Rect.unit ![0, 0, 0] S1x256x512.size inb_S1x256x512_S1x256x512_0_0_0)
  x1 := View.ld (a3.view.read (Elt F) (h3.unread B.x1)) (Rect.unit ![0, 0, 0] S1x256x512.size inb_S1x256x512_S1x256x512_0_0_0)
  x2 := View.ld (a4.view.read (Elt F) (h4.unread B.x2)) (Rect.unit ![0, 0, 0] S1x256x512.size inb_S1x256x512_S1x256x512_0_0_0)
  x3 := View.ld (a5.view.read (Elt F) (h5.unread B.x3)) (Rect.unit ![0, 0, 0] S1x256x512.size inb_S1x256x512_S1x256x512_0_0_0)
  m0 := View.ld (a6.view.read (Elt F) (h6.unread B.m0)) (Rect.unit ![0, 0, 0] S1x256x256.size inb_S1x256x256_S1x256x256_0_0_0)
  m1 := View.ld (a7.view.read (Elt F) (h7.unread B.m1)) (Rect.unit ![0, 0, 0] S1x256x256.size inb_S1x256x256_S1x256x256_0_0_0)
  m2 := View.ld (a8.view.read (Elt F) (h8.unread B.m2)) (Rect.unit ![0, 0, 0] S1x256x256.size inb_S1x256x256_S1x256x256_0_0_0)
  m3 := View.ld (a9.view.read (Elt F) (h9.unread B.m3)) (Rect.unit ![0, 0, 0] S1x256x256.size inb_S1x256x256_S1x256x256_0_0_0)
  wqkv := View.ld (a10.view.read (Elt F) (h10.unread B.wqkv)) (Rect.unit ![0, 0] S512x1536.size inb_S512x1536_S512x1536_0_0)
  winner := View.ld (a11.view.read (Elt F) (h11.unread B.winner)) (Rect.unit ![0, 0] S256x1024.size inb_S256x1024_S256x1024_0_0)
  wouter := View.ld (a12.view.read (Elt F) (h12.unread B.wouter)) (Rect.unit ![0, 0] S256x1024.size inb_S256x1024_S256x1024_0_0)
  wout := View.ld (a13.view.read (Elt F) (h13.unread B.wout)) (Rect.unit ![0, 0] S512x512.size inb_S512x512_S512x512_0_0)
  bout := B.bout

/-- They are the blocks. -/
theorem readBack_eq (B : Blocks F) :
    readBack a2 h2 a3 h3 a4 h4 a5 h5 a6 h6 a7 h7 a8 h8 a9 h9 a10 h10 a11 h11 a12 h12 a13 h13 B = B := by
  unfold readBack
  simp only [Memref.IsWhole.read_unread]
  congr 1 <;> exact View.ld_unit_lit _ _ (by decide)

/-- The pieces as a function of the means read back. -/
def prepPiecesWith (mm : Vec F S4x256 .f32) (B : Blocks F) (W : Narrow F) : PrepPieces F :=
  { prepPieces B W with excl := [⟨Rect.unit ![0, 0] ![4, 128] inb_S8x128_S4x128_0_0, exclRows mm B.wouter⟩] }

theorem prepPiecesWith_means (B : Blocks F) (W : Narrow F) :
    prepPiecesWith (means B) B W = prepPieces B W := by
  unfold prepPiecesWith prepPieces excl
  rfl

/-- The pieces with the means read back from the buffer they were stored in. -/
def prepRead (B : Blocks F) (W : Narrow F) : PrepPieces F :=
  prepPiecesWith (a20.view.readCov (meanStack B.m0 B.m1 B.m2 B.m3)
    (Rect.unit (s := S8x256) ![0, 0] S4x256.size inb_S8x256_S4x256_0_0).toLoadRect) B W

/-- Reading the four means back from their buffer gives the four means. -/
theorem prepRead_eq (B : Blocks F) (W : Narrow F) : prepRead a20 B W = prepPieces B W :=
  (congrArg (fun mm => prepPiecesWith mm B W)
    (View.readCov_eq_canon' a20.view (meanStack B.m0 B.m1 B.m2 B.m3)
      (Rect.unit (s := S8x256) ![0, 0] S4x256.size inb_S8x256_S4x256_0_0).toLoadRect)).trans (prepPiecesWith_means B W)

/-- The narrow weights as a point reads them from their buffers. -/
def narrowRead (W : Narrow F) : Narrow F where
  wqkv := View.ld (a21.view.read (Elt F) (h21.unread W.wqkv)) (Rect.unit ![0, 0] S512x1536.size inb_S512x1536_S512x1536_0_0)
  winner := View.ld (a22.view.read (Elt F) (h22.unread W.winner)) (Rect.unit ![0, 0] S256x1024.size inb_S256x1024_S256x1024_0_0)
  wout := W.wout

/-- They are the narrow weights. -/
theorem narrowRead_eq (W : Narrow F) : narrowRead a21 h21 a22 h22 W = W := by
  unfold narrowRead
  simp only [Memref.IsWhole.read_unread]
  congr 1 <;> exact View.ld_unit_lit _ _ (by decide)

set_option maxHeartbeats 1000000 in
/-- A preparing point stores the queries, keys, values, means and excluded sources. -/
theorem runPrep_pieces (B : Blocks F) (W : Narrow F) (hA : ¬Casts i) (hP : Prepares i) (hB : ¬Attends i) :
    (runPrep c i a2 h2 a3 h3 a4 h4 a5 h5 a6 h6 a7 h7 a8 h8 a9 h9 a10 h10 a11 h11 a12 h12 a13 h13 a14 h14 a15 h15 a16 h16 a17 h17
      a18 h18 a19 h19 a20 h20 a21 h21 a22 h22 a23 h23 B W hA hP hB).1 = prepPieces B W := by
  have h : (runPrep c i a2 h2 a3 h3 a4 h4 a5 h5 a6 h6 a7 h7 a8 h8 a9 h9 a10 h10 a11 h11 a12 h12 a13 h13 a14 h14 a15 h15 a16 h16 a17 h17
      a18 h18 a19 h19 a20 h20 a21 h21 a22 h22 a23 h23 B W hA hP hB).1
      = prepRead a20 (readBack a2 h2 a3 h3 a4 h4 a5 h5 a6 h6 a7 h7 a8 h8 a9 h9 a10 h10 a11 h11 a12 h12 a13 h13 B)
          (narrowRead a21 h21 a22 h22 W) := rfl
  exact h.trans ((congrArg₂ (prepRead a20) (readBack_eq a2 h2 a3 h3 a4 h4 a5 h5 a6 h6 a7 h7 a8 h8 a9 h9 a10 h10 a11 h11 a12 h12 a13 h13 B)
    (narrowRead_eq a21 h21 a22 h22 W)).trans (prepRead_eq a20 B W))

/-- Pieces with the narrow weights added. -/
def withWeights (P : PrepPieces F) (W : Narrow F) : PrepPieces F :=
  { P with
    wqkv := [⟨Rect.unit ![0, 0] ![512, 1536] inb_S512x1536_S512x1536_0_0, W.wqkv⟩]
    winner := [⟨Rect.unit ![0, 0] ![256, 1024] inb_S256x1024_S256x1024_0_0, W.winner⟩]
    wout := [⟨Rect.unit ![0, 0] ![512, 512] inb_S512x512_S512x512_0_0, W.wout⟩] }

/-- The pieces the first point stores: those of every preparing point and the narrow weights. -/
def castPieces (B : Blocks F) : PrepPieces F := withWeights (prepPieces B (narrow B)) (narrow B)

/-- The narrow weights read back from the buffers they were just stored in. -/
def castRead (W : Narrow F) : Narrow F where
  wqkv := a21.view.readCov [⟨Rect.unit ![0, 0] ![512, 1536] inb_S512x1536_S512x1536_0_0, W.wqkv⟩]
    (Rect.unit ![0, 0] S512x1536.size inb_S512x1536_S512x1536_0_0).toLoadRect
  winner := a22.view.readCov [⟨Rect.unit ![0, 0] ![256, 1024] inb_S256x1024_S256x1024_0_0, W.winner⟩]
    (Rect.unit ![0, 0] S256x1024.size inb_S256x1024_S256x1024_0_0).toLoadRect
  wout := W.wout

/-- They are the narrow weights. -/
theorem castRead_eq (W : Narrow F) : castRead a21 a22 W = W := by
  obtain ⟨w1, w2, w3⟩ := W
  have e1 := View.readCov_unit_lit (Val := Elt F) (S := S512x1536) a21.view inb_S512x1536_S512x1536_0_0 w1 (by decide)
  have e2 := View.readCov_unit_lit (Val := Elt F) (S := S256x1024) a22.view inb_S256x1024_S256x1024_0_0 w2 (by decide)
  exact congrArg₂ (fun p q => Narrow.mk p q w3) e1 e2

/-- The first point's pieces with everything it reads spelled as it is read. -/
def firstRead (B : Blocks F) : PrepPieces F :=
  withWeights (prepRead a20 B (castRead a21 a22 (narrow B))) (narrow B)

theorem firstRead_eq (B : Blocks F) : firstRead a20 a21 a22 B = castPieces B :=
  congrArg (fun P => withWeights P (narrow B))
    ((congrArg (prepRead a20 B) (castRead_eq a21 a22 (narrow B))).trans (prepRead_eq a20 B (narrow B)))

end Runs

end Cert.KernelIdeal.Proof

end
-- ==== Proof.ModelCast.lean ====
module

public import proofs.«01_k».proof.Proof.Model

/-!
What the first grid point stores.
-/

@[expose] public section

set_option maxRecDepth 65536

noncomputable section

namespace Cert.KernelIdeal.Proof

open Idealize.ShloMosaic Idealize.ShloMosaic.TcCoe Idealize.ShloMosaic.Tactic
open Idealize.SL Idealize.SL.Sem
open Cert.KernelIdeal.Gen

variable {F : FTy → Type} [FloatOps F] [Named F]

section Runs

variable (c : Dev nD) (i : grid0.Coords)
  (a2 : Memref sig .tc .vmem S1x256x512 .f32) (h2 : a2.IsWhole) (a3 : Memref sig .tc .vmem S1x256x512 .f32) (h3 : a3.IsWhole)
  (a4 : Memref sig .tc .vmem S1x256x512 .f32) (h4 : a4.IsWhole) (a5 : Memref sig .tc .vmem S1x256x512 .f32) (h5 : a5.IsWhole)
  (a6 : Memref sig .tc .vmem S1x256x256 .f32) (h6 : a6.IsWhole) (a7 : Memref sig .tc .vmem S1x256x256 .f32) (h7 : a7.IsWhole)
  (a8 : Memref sig .tc .vmem S1x256x256 .f32) (h8 : a8.IsWhole) (a9 : Memref sig .tc .vmem S1x256x256 .f32) (h9 : a9.IsWhole)
  (a10 : Memref sig .tc .vmem S512x1536 .f32) (h10 : a10.IsWhole) (a11 : Memref sig .tc .vmem S256x1024 .f32) (h11 : a11.IsWhole)
  (a12 : Memref sig .tc .vmem S256x1024 .f32) (h12 : a12.IsWhole) (a13 : Memref sig .tc .vmem S512x512 .f32) (h13 : a13.IsWhole)
  (a14 : Memref sig .tc .vmem S1x512 .f32) (h14 : a14.IsWhole) (a15 : Memref sig .tc .vmem S256x512 .f32) (h15 : a15.IsWhole)
  (a16 : Memref sig .tc .vmem S1024x1024 .bf16) (h16 : a16.IsWhole) (a17 : Memref sig .tc .vmem S1024x1024 .bf16) (h17 : a17.IsWhole)
  (a18 : Memref sig .tc .vmem S1024x1024 .bf16) (h18 : a18.IsWhole) (a19 : Memref sig .tc .vmem S8x128 .i32) (h19 : a19.IsWhole)
  (a20 : Memref sig .tc .vmem S8x256 .f32) (h20 : a20.IsWhole) (a21 : Memref sig .tc .vmem S512x1536 .bf16) (h21 : a21.IsWhole)
  (a22 : Memref sig .tc .vmem S256x1024 .bf16) (h22 : a22.IsWhole) (a23 : Memref sig .tc .vmem S512x512 .bf16) (h23 : a23.IsWhole)

set_option maxHeartbeats 1000000 in
/-- The first point stores, besides, the narrow weights. -/
theorem runCast_pieces (B : Blocks F) (hA : Casts i) (hP : Prepares i) (hB : ¬Attends i) :
    (runCast c i a2 h2 a3 h3 a4 h4 a5 h5 a6 h6 a7 h7 a8 h8 a9 h9 a10 h10 a11 h11 a12 h12 a13 h13 a14 h14 a15 h15 a16 h16 a17 h17
      a18 h18 a19 h19 a20 h20 a21 h21 a22 h22 a23 h23 B hA hP hB).1 = castPieces B := by
  have h : (runCast c i a2 h2 a3 h3 a4 h4 a5 h5 a6 h6 a7 h7 a8 h8 a9 h9 a10 h10 a11 h11 a12 h12 a13 h13 a14 h14 a15 h15 a16 h16 a17 h17
      a18 h18 a19 h19 a20 h20 a21 h21 a22 h22 a23 h23 B hA hP hB).1
      = firstRead a20 a21 a22 (readBack a2 h2 a3 h3 a4 h4 a5 h5 a6 h6 a7 h7 a8 h8 a9 h9 a10 h10 a11 h11 a12 h12 a13 h13 B) := by
    dsimp only [firstRead, castRead, narrow, readBack, withWeights, prepRead, prepPiecesWith, prepPieces, qStack, kStack, vStack, stack,
      qRows, kRows, vRows]
    rfl
  exact h.trans ((congrArg (firstRead a20 a21 a22)
    (readBack_eq a2 h2 a3 h3 a4 h4 a5 h5 a6 h6 a7 h7 a8 h8 a9 h9 a10 h10 a11 h11 a12 h12 a13 h13 B)).trans (firstRead_eq a20 a21 a22 B))

end Runs

end Cert.KernelIdeal.Proof

end
-- ==== Proof.Body.lean ====
module

public import proofs.«01_k».proof.Proof.ModelCast
public import Idealize.ShloMosaic.Lib.VecWindow

/-!
The body's three kinds of point as triples over owned buffers: a preparing point, the first point, and an
attending point, each with what it leaves named by the functions of the model.
-/

@[expose] public section

set_option maxRecDepth 16384

noncomputable section

namespace Cert.KernelIdeal.Proof

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F] [Named F]

local notation "𝕄" => MT nD τ sig Unit (Elt F) ℕ (UR sig nD τ) ℕ

/-- Four row blocks of 256 fill 1024 rows, whatever was there before. -/
theorem stack_read {M : Memref sig .tc .vmem S1024x1024 .bf16} (r0 r1 r2 r3 : FVec F S256x1024 .bf16) (f) :
    M.view.read (Elt F) (M.view.writes (Elt F) f (stack r0 r1 r2 r3)) = View.canon (stack r0 r1 r2 r3) :=
  View.read_writes_eq_canon _ _ _ (View.cover_of_tiled _ ![256, 1024] (by sl_kernel_rfl))

/-- A buffer says which source each of the four sources leaves out. -/
abbrev Selects (B : Blocks F) (d : Vec F S8x128 .i32) : Prop :=
  View.ld d (Rect.unit (s := S8x128) ![0, 0] ![4, 128] inb_S8x128_S4x128_0_0) = excl B

/-- Storing the four rows makes it say so. -/
theorem selects_of_writes {M : Memref sig .tc .vmem S8x128 .i32} (B : Blocks F) (f) :
    Selects B (M.view.read (Elt F) (M.view.writes (Elt F) f [⟨Rect.unit ![0, 0] ![4, 128] inb_S8x128_S4x128_0_0, excl B⟩])) := by
  funext x
  exact View.read_writes_cons_emb _ _ _ _ _ _

section Triples

variable (c : Dev nD) (i : grid0.Coords)
  (a2 : Memref sig .tc .vmem S1x256x512 .f32) (h2 : a2.IsWhole) (a3 : Memref sig .tc .vmem S1x256x512 .f32) (h3 : a3.IsWhole)
  (a4 : Memref sig .tc .vmem S1x256x512 .f32) (h4 : a4.IsWhole) (a5 : Memref sig .tc .vmem S1x256x512 .f32) (h5 : a5.IsWhole)
  (a6 : Memref sig .tc .vmem S1x256x256 .f32) (h6 : a6.IsWhole) (a7 : Memref sig .tc .vmem S1x256x256 .f32) (h7 : a7.IsWhole)
  (a8 : Memref sig .tc .vmem S1x256x256 .f32) (h8 : a8.IsWhole) (a9 : Memref sig .tc .vmem S1x256x256 .f32) (h9 : a9.IsWhole)
  (a10 : Memref sig .tc .vmem S512x1536 .f32) (h10 : a10.IsWhole) (a11 : Memref sig .tc .vmem S256x1024 .f32) (h11 : a11.IsWhole)
  (a12 : Memref sig .tc .vmem S256x1024 .f32) (h12 : a12.IsWhole) (a13 : Memref sig .tc .vmem S512x512 .f32) (h13 : a13.IsWhole)
  (a14 : Memref sig .tc .vmem S1x512 .f32) (h14 : a14.IsWhole) (a15 : Memref sig .tc .vmem S256x512 .f32) (h15 : a15.IsWhole)
  (a16 : Memref sig .tc .vmem S1024x1024 .bf16) (h16 : a16.IsWhole) (a17 : Memref sig .tc .vmem S1024x1024 .bf16) (h17 : a17.IsWhole)
  (a18 : Memref sig .tc .vmem S1024x1024 .bf16) (h18 : a18.IsWhole) (a19 : Memref sig .tc .vmem S8x128 .i32) (h19 : a19.IsWhole)
  (a20 : Memref sig .tc .vmem S8x256 .f32) (h20 : a20.IsWhole) (a21 : Memref sig .tc .vmem S512x1536 .bf16) (h21 : a21.IsWhole)
  (a22 : Memref sig .tc .vmem S256x1024 .bf16) (h22 : a22.IsWhole) (a23 : Memref sig .tc .vmem S512x512 .bf16) (h23 : a23.IsWhole)

/-- The thirteen input buffers owned at the contents `B`. -/
def ownIn (B : Blocks F) : sProp 𝕄 :=
  iprop(owns (c : Thread nD τ) a2 fullShare B.x0
    ∗ owns (c : Thread nD τ) a3 fullShare B.x1
    ∗ owns (c : Thread nD τ) a4 fullShare B.x2
    ∗ owns (c : Thread nD τ) a5 fullShare B.x3
    ∗ owns (c : Thread nD τ) a6 fullShare B.m0
    ∗ owns (c : Thread nD τ) a7 fullShare B.m1
    ∗ owns (c : Thread nD τ) a8 fullShare B.m2
    ∗ owns (c : Thread nD τ) a9 fullShare B.m3
    ∗ owns (c : Thread nD τ) a10 fullShare B.wqkv
    ∗ owns (c : Thread nD τ) a11 fullShare B.winner
    ∗ owns (c : Thread nD τ) a12 fullShare B.wouter
    ∗ owns (c : Thread nD τ) a13 fullShare B.wout
    ∗ owns (c : Thread nD τ) a14 fullShare B.bout)

theorem ownIn_inputs (B : Blocks F) : ownIn c a2 a3 a4 a5 a6 a7 a8 a9 a10 a11 a12 a13 a14 B ⊢ inputs c a2 h2 a3 h3 a4 h4 a5 h5 a6 h6 a7 h7 a8 h8 a9 h9 a10 h10 a11 h11 a12 h12 a13 h13 a14 h14 B := by
  unfold ownIn inputs
  iintro ⟨H2, H3, H4, H5, H6, H7, H8, H9, H10, H11, H12, H13, H14⟩
  isplitl [H2]; · iapply (owns_held c a2 h2 _); iexact H2
  isplitl [H3]; · iapply (owns_held c a3 h3 _); iexact H3
  isplitl [H4]; · iapply (owns_held c a4 h4 _); iexact H4
  isplitl [H5]; · iapply (owns_held c a5 h5 _); iexact H5
  isplitl [H6]; · iapply (owns_held c a6 h6 _); iexact H6
  isplitl [H7]; · iapply (owns_held c a7 h7 _); iexact H7
  isplitl [H8]; · iapply (owns_held c a8 h8 _); iexact H8
  isplitl [H9]; · iapply (owns_held c a9 h9 _); iexact H9
  isplitl [H10]; · iapply (owns_held c a10 h10 _); iexact H10
  isplitl [H11]; · iapply (owns_held c a11 h11 _); iexact H11
  isplitl [H12]; · iapply (owns_held c a12 h12 _); iexact H12
  isplitl [H13]; · iapply (owns_held c a13 h13 _); iexact H13
  iapply (owns_held c a14 h14 _); iexact H14

theorem inputs_ownIn (B : Blocks F) : inputs c a2 h2 a3 h3 a4 h4 a5 h5 a6 h6 a7 h7 a8 h8 a9 h9 a10 h10 a11 h11 a12 h12 a13 h13 a14 h14 B ⊢ ownIn c a2 a3 a4 a5 a6 a7 a8 a9 a10 a11 a12 a13 a14 B := by
  unfold ownIn inputs
  iintro ⟨H2, H3, H4, H5, H6, H7, H8, H9, H10, H11, H12, H13, H14⟩
  isplitl [H2]; · iapply (held_owns c a2 h2 _); iexact H2
  isplitl [H3]; · iapply (held_owns c a3 h3 _); iexact H3
  isplitl [H4]; · iapply (held_owns c a4 h4 _); iexact H4
  isplitl [H5]; · iapply (held_owns c a5 h5 _); iexact H5
  isplitl [H6]; · iapply (held_owns c a6 h6 _); iexact H6
  isplitl [H7]; · iapply (held_owns c a7 h7 _); iexact H7
  isplitl [H8]; · iapply (held_owns c a8 h8 _); iexact H8
  isplitl [H9]; · iapply (held_owns c a9 h9 _); iexact H9
  isplitl [H10]; · iapply (held_owns c a10 h10 _); iexact H10
  isplitl [H11]; · iapply (held_owns c a11 h11 _); iexact H11
  isplitl [H12]; · iapply (held_owns c a12 h12 _); iexact H12
  isplitl [H13]; · iapply (held_owns c a13 h13 _); iexact H13
  iapply (held_owns c a14 h14 _); iexact H14

/-- The buffers of narrow weights owned at `W`. -/
def ownW (W : Narrow F) : sProp 𝕄 :=
  iprop(owns (c : Thread nD τ) a21 fullShare W.wqkv ∗ owns (c : Thread nD τ) a22 fullShare W.winner ∗ owns (c : Thread nD τ) a23 fullShare W.wout)

theorem ownW_weights (W : Narrow F) : ownW c a21 a22 a23 W ⊢ weights c a21 h21 a22 h22 a23 h23 W := by
  unfold ownW weights
  iintro ⟨H21, H22, H23⟩
  isplitl [H21]; · iapply (owns_held c a21 h21 _); iexact H21
  isplitl [H22]; · iapply (owns_held c a22 h22 _); iexact H22
  iapply (owns_held c a23 h23 _); iexact H23

theorem weights_ownW (W : Narrow F) : weights c a21 h21 a22 h22 a23 h23 W ⊢ ownW c a21 a22 a23 W := by
  unfold ownW weights
  iintro ⟨H21, H22, H23⟩
  isplitl [H21]; · iapply (held_owns c a21 h21 _); iexact H21
  isplitl [H22]; · iapply (held_owns c a22 h22 _); iexact H22
  iapply (held_owns c a23 h23 _); iexact H23

/-- A buffer owned at some contents. -/
def some' {s : Shape} {e : EltTy} (M : Memref sig .tc .vmem s e) : sProp 𝕄 :=
  iprop(∃ d, owns (c : Thread nD τ) M fullShare d)

theorem some_free {s : Shape} {e : EltTy} (M : Memref sig .tc .vmem s e) : some' c M ⊢ (free c M : sProp 𝕄) := by
  unfold some' free owns
  iintro ⟨%d, ⟨%f, %hf, H⟩⟩
  iexists _; iexact H

theorem wrote_some {s : Shape} {e : EltTy} (M : Memref sig .tc .vmem s e) (L : List (View.Piece (Elt F) s e)) :
    wrote c M L ⊢ some' c M := by
  unfold some' wrote owns
  iintro ⟨%f, H⟩
  iexists M.view.read (Elt F) (M.view.writes (Elt F) f L); iexists M.view.writes (Elt F) f L; isplitr
  · ipureintro; rfl
  iexact H

/-- The scratch buffers a preparing point leaves: queries, keys and values stacked, and the sources left out. -/
def ownPrep (B : Blocks F) (W : Narrow F) : sProp 𝕄 :=
  iprop(owns (c : Thread nD τ) a16 fullShare (View.canon (qStack B W))
    ∗ owns (c : Thread nD τ) a17 fullShare (View.canon (kStack B W))
    ∗ owns (c : Thread nD τ) a18 fullShare (View.canon (vStack B W))
    ∗ (∃ d, owns (c : Thread nD τ) a19 fullShare d ∗ ⌜Selects B d⌝) ∗ some' c a20)

/-- What the stores of a preparing point leave is that. -/
theorem wrote_ownPrep (B : Blocks F) (W : Narrow F) :
    iprop(wrote c a16 (prepPieces B W).q ∗ wrote c a17 (prepPieces B W).k ∗ wrote c a18 (prepPieces B W).v
      ∗ wrote c a19 (prepPieces B W).excl ∗ wrote c a20 (prepPieces B W).means) ⊢ ownPrep c a16 a17 a18 a19 a20 B W := by
  unfold ownPrep
  iintro ⟨H16, H17, H18, H19, H20⟩
  isplitl [H16]; · iapply (wrote_owns c a16 _ _ (fun f => stack_read _ _ _ _ f)); iexact H16
  isplitl [H17]; · iapply (wrote_owns c a17 _ _ (fun f => stack_read _ _ _ _ f)); iexact H17
  isplitl [H18]; · iapply (wrote_owns c a18 _ _ (fun f => stack_read _ _ _ _ f)); iexact H18
  isplitl [H19]
  · unfold wrote owns
    icases H19 with ⟨%f, H⟩
    iexists a19.view.read (Elt F) (a19.view.writes (Elt F) f (prepPieces B W).excl)
    isplitl [H]
    · iexists a19.view.writes (Elt F) f (prepPieces B W).excl; isplitr
      · ipureintro; rfl
      iexact H
    ipureintro; exact selects_of_writes B f
  iapply (wrote_some c a20 _); iexact H20

theorem prep_triple (B : Blocks F) (W : Narrow F) (hA : ¬Casts i) (hP : Prepares i) (hB : ¬Attends i) (E : Set ℕ) (K : PUnit → sProp 𝕄) :
    iprop(ownIn c a2 a3 a4 a5 a6 a7 a8 a9 a10 a11 a12 a13 a14 B
        ∗ (some' c a16 ∗ some' c a17 ∗ some' c a18 ∗ some' c a19 ∗ some' c a20) ∗ ownW c a21 a22 a23 W
        ∗ (iprop(ownIn c a2 a3 a4 a5 a6 a7 a8 a9 a10 a11 a12 a13 a14 B ∗ ownPrep c a16 a17 a18 a19 a20 B W
            ∗ ownW c a21 a22 a23 W) -∗ K ⟨⟩))
      ⊢ wp frame (wpE (defs₀ (F := F)) Variants.none c none) E
          (cc0__fused_kernel i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23) K := by
  iintro ⟨HI, ⟨H16, H17, H18, H19, H20⟩, HW, Hk⟩
  iapply ((runPrep c i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 B W hA hP hB).2 E K)
  isplitl [HI]; · iapply (ownIn_inputs c a2 h2 a3 h3 a4 h4 a5 h5 a6 h6 a7 h7 a8 h8 a9 h9 a10 h10 a11 h11 a12 h12 a13 h13 a14 h14 B); iexact HI
  isplitl [H16 H17 H18 H19 H20]
  · isplitl [H16]; · iapply (some_free c a16); iexact H16
    isplitl [H17]; · iapply (some_free c a17); iexact H17
    isplitl [H18]; · iapply (some_free c a18); iexact H18
    isplitl [H19]; · iapply (some_free c a19); iexact H19
    iapply (some_free c a20); iexact H20
  isplitl [HW]; · iapply (ownW_weights c a21 h21 a22 h22 a23 h23 W); iexact HW
  rw [runPrep_pieces]
  iintro ⟨HI, HS, HW⟩
  iapply Hk
  isplitl [HI]; · iapply (inputs_ownIn c a2 h2 a3 h3 a4 h4 a5 h5 a6 h6 a7 h7 a8 h8 a9 h9 a10 h10 a11 h11 a12 h12 a13 h13 a14 h14 B); iexact HI
  isplitl [HS]; · iapply (wrote_ownPrep c a16 a17 a18 a19 a20 B W); iexact HS
  iapply (weights_ownW c a21 h21 a22 h22 a23 h23 W); iexact HW

theorem cast_triple (B : Blocks F) (hA : Casts i) (hP : Prepares i) (hB : ¬Attends i) (E : Set ℕ) (K : PUnit → sProp 𝕄) :
    iprop(ownIn c a2 a3 a4 a5 a6 a7 a8 a9 a10 a11 a12 a13 a14 B
        ∗ (some' c a16 ∗ some' c a17 ∗ some' c a18 ∗ some' c a19 ∗ some' c a20) ∗ (some' c a21 ∗ some' c a22 ∗ some' c a23)
        ∗ (iprop(ownIn c a2 a3 a4 a5 a6 a7 a8 a9 a10 a11 a12 a13 a14 B ∗ ownPrep c a16 a17 a18 a19 a20 B (narrow B)
            ∗ ownW c a21 a22 a23 (narrow B)) -∗ K ⟨⟩))
      ⊢ wp frame (wpE (defs₀ (F := F)) Variants.none c none) E
          (cc0__fused_kernel i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23) K := by
  iintro ⟨HI, ⟨H16, H17, H18, H19, H20⟩, ⟨H21, H22, H23⟩, Hk⟩
  iapply ((runCast c i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 B hA hP hB).2 E K)
  isplitl [HI]; · iapply (ownIn_inputs c a2 h2 a3 h3 a4 h4 a5 h5 a6 h6 a7 h7 a8 h8 a9 h9 a10 h10 a11 h11 a12 h12 a13 h13 a14 h14 B); iexact HI
  isplitl [H16 H17 H18 H19 H20]
  · isplitl [H16]; · iapply (some_free c a16); iexact H16
    isplitl [H17]; · iapply (some_free c a17); iexact H17
    isplitl [H18]; · iapply (some_free c a18); iexact H18
    isplitl [H19]; · iapply (some_free c a19); iexact H19
    iapply (some_free c a20); iexact H20
  isplitl [H21 H22 H23]
  · isplitl [H21]; · iapply (some_free c a21); iexact H21
    isplitl [H22]; · iapply (some_free c a22); iexact H22
    iapply (some_free c a23); iexact H23
  rw [runCast_pieces]
  iintro ⟨HI, HS, ⟨H21, H22, H23⟩⟩
  iapply Hk
  isplitl [HI]; · iapply (inputs_ownIn c a2 h2 a3 h3 a4 h4 a5 h5 a6 h6 a7 h7 a8 h8 a9 h9 a10 h10 a11 h11 a12 h12 a13 h13 a14 h14 B); iexact HI
  isplitl [HS]; · iapply (wrote_ownPrep c a16 a17 a18 a19 a20 B (narrow B)); iexact HS
  unfold ownW
  isplitl [H21]; · iapply (wrote_owns c a21 _ _ (fun f => View.read_writes_full (s := S512x1536) a21.view f _ _ [])); iexact H21
  isplitl [H22]; · iapply (wrote_owns c a22 _ _ (fun f => View.read_writes_full (s := S256x1024) a22.view f _ _ [])); iexact H22
  iapply (wrote_owns c a23 _ _ (fun f => View.read_writes_full (s := S512x512) a23.view f _ _ [])); iexact H23

theorem attend_triple (bout : Vec F S1x512 .f32) (q k v : Vec F S1024x1024 .bf16) (e : Vec F S8x128 .i32) (wout : Vec F S512x512 .bf16)
    (hA : ¬Casts i) (hP : ¬Prepares i) (hB : Attends i) (E : Set ℕ) (K : PUnit → sProp 𝕄) :
    iprop(owns (c : Thread nD τ) a14 fullShare bout ∗ some' c a15 ∗ owns (c : Thread nD τ) a16 fullShare q
        ∗ owns (c : Thread nD τ) a17 fullShare k ∗ owns (c : Thread nD τ) a18 fullShare v
        ∗ owns (c : Thread nD τ) a19 fullShare e ∗ owns (c : Thread nD τ) a23 fullShare wout
        ∗ (iprop(owns (c : Thread nD τ) a14 fullShare bout
            ∗ owns (c : Thread nD τ) a15 fullShare (attBlock i hB (exclWord i hB e) q k v wout bout)
            ∗ owns (c : Thread nD τ) a16 fullShare q
            ∗ owns (c : Thread nD τ) a17 fullShare k ∗ owns (c : Thread nD τ) a18 fullShare v
            ∗ owns (c : Thread nD τ) a19 fullShare e ∗ owns (c : Thread nD τ) a23 fullShare wout) -∗ K ⟨⟩))
      ⊢ wp frame (wpE (defs₀ (F := F)) Variants.none c none) E
          (cc0__fused_kernel i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23) K := by
  iintro ⟨H14, H15, H16, H17, H18, H19, H23, Hk⟩
  iapply ((runAttend c i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 bout q k v e wout hA hP hB).2 E K)
  isplitl [H14]; · iapply (owns_held c a14 h14 _); iexact H14
  isplitl [H15]; · iapply (some_free c a15); iexact H15
  isplitl [H16]; · iapply (owns_held c a16 h16 _); iexact H16
  isplitl [H17]; · iapply (owns_held c a17 h17 _); iexact H17
  isplitl [H18]; · iapply (owns_held c a18 h18 _); iexact H18
  isplitl [H19]; · iapply (owns_held c a19 h19 _); iexact H19
  isplitl [H23]; · iapply (owns_held c a23 h23 _); iexact H23
  rw [runAttend_pieces]
  iintro ⟨H14, H15, H16, H17, H18, H19, H23⟩
  iapply Hk
  isplitl [H14]; · iapply (held_owns c a14 h14 _); iexact H14
  isplitl [H15]
  · iapply (wrote_owns c a15 _ _ (fun f => View.read_writes_full (s := S256x512) a15.view f _ _ [])); iexact H15
  isplitl [H16]; · iapply (held_owns c a16 h16 _); iexact H16
  isplitl [H17]; · iapply (held_owns c a17 h17 _); iexact H17
  isplitl [H18]; · iapply (held_owns c a18 h18 _); iexact H18
  isplitl [H19]; · iapply (held_owns c a19 h19 _); iexact H19
  iapply (held_owns c a23 h23 _); iexact H23

end Triples

end Cert.KernelIdeal.Proof

end
-- ==== Proof.Region.lean ====
module

public import proofs.«01_k».proof.Proof.Body
public import Idealize.ShloMosaic.Lib.Claim

/-!
The launch: what every buffer holds before and after each grid point, the body's triple at every point, and the
run of the whole program.
-/

@[expose] public section

set_option maxRecDepth 16384

noncomputable section

namespace Cert.KernelIdeal.Proof

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## Contents by grid point -/

/-- The thirteen input blocks at a point. -/
def blocksAt (c : Dev nD) (t : Fin cfg0.N) : Blocks F :=
  ⟨iblk m c 0 t, iblk m c 1 t, iblk m c 2 t, iblk m c 3 t, iblk m c 4 t, iblk m c 5 t, iblk m c 6 t, iblk m c 7 t, iblk m c 8 t, iblk m c 9 t, iblk m c 10 t, iblk m c 11 t, iblk m c 12 t⟩

/-- The first point. -/
def start : Fin cfg0.N := ⟨0, by rw [show cfg0.N = 10 from N_0]; decide⟩

/-- The preparing point of the batch entry a point belongs to. -/
def prepPoint (n : ℕ) (h : n < cfg0.N) : Fin cfg0.N := ⟨5 * (n / 5), lt_of_le_of_lt (Nat.mul_div_le n 5) h⟩

/-- The narrow weights, cast at the first point. -/
def castWeights (c : Dev nD) : Narrow F := narrow (blocksAt m c start)

/-- A buffer that says which source each of the four sources leaves out, and nothing else. -/
def exclStored (B : Blocks F) : Vec F S8x128 .i32 :=
  View.canon (Val := Elt F) (e := .i32) [⟨Rect.unit ![0, 0] ![4, 128] inb_S8x128_S4x128_0_0, excl B⟩]

/-- The block of the result an attending point writes. -/
def outAt (c : Dev nD) (t : Fin cfg0.N) : Vec F S256x512 .f32 :=
  if h : Attends (grid0.coords t) then
    attBlock (grid0.coords t) h
      (exclWord (grid0.coords t) h
        (exclStored (blocksAt m c (prepPoint t.val t.isLt))))
      (View.canon (qStack (blocksAt m c (prepPoint t.val t.isLt)) (castWeights m c)))
      (View.canon (kStack (blocksAt m c (prepPoint t.val t.isLt)) (castWeights m c)))
      (View.canon (vStack (blocksAt m c (prepPoint t.val t.isLt)) (castWeights m c)))
      (castWeights m c).wout (blocksAt m c t).bout
  else View.canon (Val := Elt F) (e := .f32) []

/-- The word read at an attending point lies in the four rows that say which sources are left out. -/
theorem word_row : ∀ t : Fin cfg0.N, t.val % 5 ≠ 0 → k0_off1 (grid0.coords t) 0 < 4 ∧ k0_off1 (grid0.coords t) 1 = 0 := by
  decide +kernel

theorem exclWord_congr (t : Fin cfg0.N) (h : Attends (grid0.coords t)) (B : Blocks F) (d : Vec F S8x128 .i32) (hd : Selects B d) :
    exclWord (grid0.coords t) h d
      = exclWord (grid0.coords t) h (exclStored B) := by
  have hc : Selects B (exclStored B) := by
    funext x; exact View.canon_cons_emb _ _ _ _
  have hr := word_row t ((attends_iff t).mp h)
  obtain ⟨x, hx⟩ : ∃ x : (Rect.unit (s := S8x128) ![0, 0] ![4, 128] inb_S8x128_S4x128_0_0).shape.Idx,
      ∀ a, (x a).val = k0_off1 (grid0.coords t) a :=
    ⟨fun a => ⟨k0_off1 (grid0.coords t) a, by
      fin_cases a
      · exact hr.1
      · exact lt_of_eq_of_lt hr.2 (by decide : 0 < 128)⟩, fun _ => rfl⟩
  have key : ∀ d : Vec F S8x128 .i32, exclWord (grid0.coords t) h d
      = View.ld d (Rect.unit (s := S8x128) ![0, 0] ![4, 128] inb_S8x128_S4x128_0_0) x := by
    intro d
    unfold exclWord extractAt View.ld
    refine congrArg d (funext fun a => Fin.ext ?_)
    have := hx a
    fin_cases a <;> simp at this ⊢ <;> omega
  rw [key, key, hd, hc]

/-- The invariant before position `n`: before the first point the scratch at anything; afterwards the scratch as the
    preparing point of the last point's batch entry left it, and the narrow weights as the first point left them. -/
def inv (c : Dev nD) : (n : ℕ) → n ≤ cfg0.N → sProp 𝕄
  | 0, _ => Pipeline.ΦA spec0 c
  | n + 1, hn => iprop((ownPrep c (Memref.whole cc0_scratch0) (Memref.whole cc0_scratch1) (Memref.whole cc0_scratch2) (Memref.whole cc0_scratch3) (Memref.whole cc0_scratch4) (blocksAt m c (prepPoint n hn)) (castWeights m c)
      ∗ ownW c (Memref.whole cc0_scratch5) (Memref.whole cc0_scratch6) (Memref.whole cc0_scratch7) (castWeights m c)) ∗ (∃ r, prngReg c r))

theorem inv_pos (c : Dev nD) (n : ℕ) (h : n ≤ cfg0.N) (hz : n ≠ 0) :
    inv m c n h = iprop((ownPrep c (Memref.whole cc0_scratch0) (Memref.whole cc0_scratch1) (Memref.whole cc0_scratch2) (Memref.whole cc0_scratch3) (Memref.whole cc0_scratch4) (blocksAt m c (prepPoint (n - 1) (by omega))) (castWeights m c)
      ∗ ownW c (Memref.whole cc0_scratch5) (Memref.whole cc0_scratch6) (Memref.whole cc0_scratch7) (castWeights m c)) ∗ (∃ r, prngReg c r)) := by
  cases n with
  | zero => exact absurd rfl hz
  | succ n => rfl

/-- What the launch hands over, as buffers owned at some contents. -/
theorem start_eq (c : Dev nD) : (Pipeline.ΦA spec0 c : sProp 𝕄)
    = iprop((some' c (Memref.whole cc0_scratch0) ∗ some' c (Memref.whole cc0_scratch1) ∗ some' c (Memref.whole cc0_scratch2) ∗ some' c (Memref.whole cc0_scratch3) ∗ some' c (Memref.whole cc0_scratch4) ∗ some' c (Memref.whole cc0_scratch5) ∗ some' c (Memref.whole cc0_scratch6) ∗ some' c (Memref.whole cc0_scratch7)) ∗ (∃ r, prngReg c r)) := by
  unfold Pipeline.ΦA; rw [scopedRest0_eq]; simp only [some', owns_whole]

/-- The proof data of the one pipeline. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => outAt m c t
  Φ t := inv m c t.val (Nat.le_of_lt_succ t.isLt)
  q _ := fullShare
  owed _ := 0

theorem A_eq (c : Dev nD) (w : Fin cfg0.W) : (dats m 0 c).A w = V m c (Pipeline.arrRef spec0 w) := by
  dsimp only [dats]

theorem inv_castSucc (c : Dev nD) (t : Fin cfg0.N) :
    (dats m 0 c).Φ t.castSucc = inv m c t.val (Nat.le_of_lt t.isLt) := by
  dsimp only [dats]; exact Pipeline.Dat.Φ_castSucc (inv m c) t

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = iblk m c 10 t := by dsimp only [dats]
theorem after_11 (c : Dev nD) (t : Fin cfg0.N) : (dats m 0 c).after 11 t = iblk m c 11 t := by dsimp only [dats]
theorem after_12 (c : Dev nD) (t : Fin cfg0.N) : (dats m 0 c).after 12 t = iblk m c 12 t := by dsimp only [dats]
theorem after_13 (c : Dev nD) (t : Fin cfg0.N) : (dats m 0 c).after 13 t = outAt m c t := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d
theorem before_8 (c : Dev nD) (t : Fin cfg0.N) (d) : (dats m 0 c).before 8 t d = iblk m c 8 t :=
  before0_8_of m (dats m 0 c) (A_eq m c 8) (after_8 m c) t d
theorem before_9 (c : Dev nD) (t : Fin cfg0.N) (d) : (dats m 0 c).before 9 t d = iblk m c 9 t :=
  before0_9_of m (dats m 0 c) (A_eq m c 9) (after_9 m c) t d
theorem before_10 (c : Dev nD) (t : Fin cfg0.N) (d) : (dats m 0 c).before 10 t d = iblk m c 10 t :=
  before0_10_of m (dats m 0 c) (A_eq m c 10) (after_10 m c) t d
theorem before_11 (c : Dev nD) (t : Fin cfg0.N) (d) : (dats m 0 c).before 11 t d = iblk m c 11 t :=
  before0_11_of m (dats m 0 c) (A_eq m c 11) (after_11 m c) t d
theorem before_12 (c : Dev nD) (t : Fin cfg0.N) (d) : (dats m 0 c).before 12 t d = iblk m c 12 t :=
  before0_12_of m (dats m 0 c) (A_eq m c 12) (after_12 m c) t d

/-- Each input's buffer is left at its block. -/
theorem leaves_0 (c : Dev nD) (t : Fin cfg0.N) :
    (dats m 0 c).leavesExact 0 t = owns (c : Thread nD τ) (win0_0.stage (cfg0.slots t 0)) fullShare (iblk m c 0 t) := by
  unfold Dat.leavesExact; rw [show cfg0.idle 0 (grid0.coords t) = false from rfl, after_0]
theorem leaves_1 (c : Dev nD) (t : Fin cfg0.N) :
    (dats m 0 c).leavesExact 1 t = owns (c : Thread nD τ) (win0_1.stage (cfg0.slots t 1)) fullShare (iblk m c 1 t) := by
  unfold Dat.leavesExact; rw [show cfg0.idle 1 (grid0.coords t) = false from rfl, after_1]
theorem leaves_2 (c : Dev nD) (t : Fin cfg0.N) :
    (dats m 0 c).leavesExact 2 t = owns (c : Thread nD τ) (win0_2.stage (cfg0.slots t 2)) fullShare (iblk m c 2 t) := by
  unfold Dat.leavesExact; rw [show cfg0.idle 2 (grid0.coords t) = false from rfl, after_2]
theorem leaves_3 (c : Dev nD) (t : Fin cfg0.N) :
    (dats m 0 c).leavesExact 3 t = owns (c : Thread nD τ) (win0_3.stage (cfg0.slots t 3)) fullShare (iblk m c 3 t) := by
  unfold Dat.leavesExact; rw [show cfg0.idle 3 (grid0.coords t) = false from rfl, after_3]
theorem leaves_4 (c : Dev nD) (t : Fin cfg0.N) :
    (dats m 0 c).leavesExact 4 t = owns (c : Thread nD τ) (win0_4.stage (cfg0.slots t 4)) fullShare (iblk m c 4 t) := by
  unfold Dat.leavesExact; rw [show cfg0.idle 4 (grid0.coords t) = false from rfl, after_4]
theorem leaves_5 (c : Dev nD) (t : Fin cfg0.N) :
    (dats m 0 c).leavesExact 5 t = owns (c : Thread nD τ) (win0_5.stage (cfg0.slots t 5)) fullShare (iblk m c 5 t) := by
  unfold Dat.leavesExact; rw [show cfg0.idle 5 (grid0.coords t) = false from rfl, after_5]
theorem leaves_6 (c : Dev nD) (t : Fin cfg0.N) :
    (dats m 0 c).leavesExact 6 t = owns (c : Thread nD τ) (win0_6.stage (cfg0.slots t 6)) fullShare (iblk m c 6 t) := by
  unfold Dat.leavesExact; rw [show cfg0.idle 6 (grid0.coords t) = false from rfl, after_6]
theorem leaves_7 (c : Dev nD) (t : Fin cfg0.N) :
    (dats m 0 c).leavesExact 7 t = owns (c : Thread nD τ) (win0_7.stage (cfg0.slots t 7)) fullShare (iblk m c 7 t) := by
  unfold Dat.leavesExact; rw [show cfg0.idle 7 (grid0.coords t) = false from rfl, after_7]
theorem leaves_8 (c : Dev nD) (t : Fin cfg0.N) :
    (dats m 0 c).leavesExact 8 t = owns (c : Thread nD τ) (win0_8.stage (cfg0.slots t 8)) fullShare (iblk m c 8 t) := by
  unfold Dat.leavesExact; rw [show cfg0.idle 8 (grid0.coords t) = false from rfl, after_8]
theorem leaves_9 (c : Dev nD) (t : Fin cfg0.N) :
    (dats m 0 c).leavesExact 9 t = owns (c : Thread nD τ) (win0_9.stage (cfg0.slots t 9)) fullShare (iblk m c 9 t) := by
  unfold Dat.leavesExact; rw [show cfg0.idle 9 (grid0.coords t) = false from rfl, after_9]
theorem leaves_10 (c : Dev nD) (t : Fin cfg0.N) :
    (dats m 0 c).leavesExact 10 t = owns (c : Thread nD τ) (win0_10.stage (cfg0.slots t 10)) fullShare (iblk m c 10 t) := by
  unfold Dat.leavesExact; rw [show cfg0.idle 10 (grid0.coords t) = false from rfl, after_10]
theorem leaves_11 (c : Dev nD) (t : Fin cfg0.N) :
    (dats m 0 c).leavesExact 11 t = owns (c : Thread nD τ) (win0_11.stage (cfg0.slots t 11)) fullShare (iblk m c 11 t) := by
  unfold Dat.leavesExact; rw [show cfg0.idle 11 (grid0.coords t) = false from rfl, after_11]
theorem leaves_12 (c : Dev nD) (t : Fin cfg0.N) :
    (dats m 0 c).leavesExact 12 t = owns (c : Thread nD τ) (win0_12.stage (cfg0.slots t 12)) fullShare (iblk m c 12 t) := by
  unfold Dat.leavesExact; rw [show cfg0.idle 12 (grid0.coords t) = false from rfl, after_12]

/-! ## The body at every point -/

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d))
    ∗ (∃ d, owns (c : Thread nD τ) (win0_7.stage (cfg0.slots t 7)) fullShare ((dats m 0 c).before 7 t d))
    ∗ (∃ d, owns (c : Thread nD τ) (win0_8.stage (cfg0.slots t 8)) fullShare ((dats m 0 c).before 8 t d))
    ∗ (∃ d, owns (c : Thread nD τ) (win0_9.stage (cfg0.slots t 9)) fullShare ((dats m 0 c).before 9 t d))
    ∗ (∃ d, owns (c : Thread nD τ) (win0_10.stage (cfg0.slots t 10)) fullShare ((dats m 0 c).before 10 t d))
    ∗ (∃ d, owns (c : Thread nD τ) (win0_11.stage (cfg0.slots t 11)) fullShare ((dats m 0 c).before 11 t d))
    ∗ (∃ d, owns (c : Thread nD τ) (win0_12.stage (cfg0.slots t 12)) fullShare ((dats m 0 c).before 12 t d))
    ∗ (∃ d, owns (c : Thread nD τ) (win0_13.stage (cfg0.slots t 13)) fullShare ((dats m 0 c).before 13 t d)))

/-- What it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t)

set_option maxHeartbeats 2000000 in
/-- The first point. -/
theorem body_first (c : Dev nD) (t : Fin cfg0.N) (h0 : t.val = 0) :
    bodyPre m c t ⊢ wp frame (wpE (defs₀ (F := F)) Variants.none c none) Set.univ (bodyAt0 t) (fun _ => bodyPost m c t) := by
  have h5 : t.val % 5 = 0 := by omega
  have hs : prepPoint t.val t.isLt = t := Fin.ext (by simp only [prepPoint]; omega)
  have ht : t = start := Fin.ext h0
  unfold bodyPre bodyPost bodyAt0
  simp only [before_0, before_1, before_2, before_3, before_4, before_5, before_6, before_7, before_8, before_9, before_10, before_11, before_12, leaves_0, leaves_1, leaves_2, leaves_3, leaves_4, leaves_5, leaves_6, leaves_7, leaves_8, leaves_9, leaves_10, leaves_11, leaves_12]
  rw [show (dats m 0 c).owesAt () t.succ = (dats m 0 c).owesAt () t.castSucc from rfl,
    show (dats m 0 c).Φ t.succ = inv m c (t.val + 1) t.isLt from rfl, inv_castSucc, inv_pos m c (t.val + 1) t.isLt (Nat.succ_ne_zero _),
    Dat.leavesExact_idle (dats m 0 c) 13 t (out_idle t h5) (out_unflushed t h5)]
  rw [show prepPoint (t.val + 1 - 1) (by omega) = t from hs, show castWeights m c = narrow (blocksAt m c t) by rw [castWeights, ht]]
  rw [show inv m c t.val (Nat.le_of_lt t.isLt) = Pipeline.ΦA spec0 c by subst ht; rfl, start_eq]
  iintro ⟨⟨⟨S0, S1, S2, S3, S4, S5, S6, S7⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply (cast_triple c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (blocksAt m c t)
    ((casts_iff t).mpr h0) ((prepares_iff t).mpr h5) (fun h => (attends_iff t).mp h h5) Set.univ _)
  isplitl [H0 H1 H2 H3 H4 H5 H6 H7 H8 H9 H10 H11 H12]
  · unfold ownIn
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact H12
  isplitl [S0 S1 S2 S3 S4]
  · isplitl [S0]; · iexact S0
    isplitl [S1]; · iexact S1
    isplitl [S2]; · iexact S2
    isplitl [S3]; · iexact S3
    iexact S4
  isplitl [S5 S6 S7]
  · isplitl [S5]; · iexact S5
    isplitl [S6]; · iexact S6
    iexact S7
  unfold ownIn
  iintro ⟨⟨H0, H1, H2, H3, H4, H5, H6, H7, H8, H9, H10, H11, H12⟩, HP, HW⟩
  isplitl [HP HW Hg]
  · isplitl [HP HW]
    · isplitl [HP]; · iexact HP
      iexact HW
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexists d13; iexact H13

/-- Any scratch a preparing point left is scratch at some contents. -/
theorem ownPrep_some (c : Dev nD) (a16 a17 a18 : Memref sig .tc .vmem S1024x1024 .bf16) (a19 : Memref sig .tc .vmem S8x128 .i32)
    (a20 : Memref sig .tc .vmem S8x256 .f32) (B : Blocks F) (W : Narrow F) :
    ownPrep c a16 a17 a18 a19 a20 B W ⊢ iprop(some' c a16 ∗ some' c a17 ∗ some' c a18 ∗ some' c a19 ∗ some' c a20) := by
  unfold ownPrep some'
  iintro ⟨S0, S1, S2, ⟨%d, ⟨S3, _⟩⟩, S4⟩
  isplitl [S0]; · iexists _; iexact S0
  isplitl [S1]; · iexists _; iexact S1
  isplitl [S2]; · iexists _; iexact S2
  isplitl [S3]; · iexists d; iexact S3
  iexact S4

set_option maxHeartbeats 2000000 in
/-- A preparing point that is not the first. -/
theorem body_prep (c : Dev nD) (t : Fin cfg0.N) (h0 : t.val ≠ 0) (h5 : t.val % 5 = 0) :
    bodyPre m c t ⊢ wp frame (wpE (defs₀ (F := F)) Variants.none c none) Set.univ (bodyAt0 t) (fun _ => bodyPost m c t) := by
  have hs : prepPoint t.val t.isLt = t := Fin.ext (by simp only [prepPoint]; omega)
  unfold bodyPre bodyPost bodyAt0
  simp only [before_0, before_1, before_2, before_3, before_4, before_5, before_6, before_7, before_8, before_9, before_10, before_11, before_12, leaves_0, leaves_1, leaves_2, leaves_3, leaves_4, leaves_5, leaves_6, leaves_7, leaves_8, leaves_9, leaves_10, leaves_11, leaves_12]
  rw [show (dats m 0 c).owesAt () t.succ = (dats m 0 c).owesAt () t.castSucc from rfl,
    show (dats m 0 c).Φ t.succ = inv m c (t.val + 1) t.isLt from rfl, inv_castSucc, inv_pos m c (t.val + 1) t.isLt (Nat.succ_ne_zero _),
    Dat.leavesExact_idle (dats m 0 c) 13 t (out_idle t h5) (out_unflushed t h5)]
  rw [show prepPoint (t.val + 1 - 1) (by omega) = t from hs, inv_pos m c t.val _ h0]
  iintro ⟨⟨⟨HP, HW⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply (prep_triple c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (blocksAt m c t) (castWeights m c)
    (fun h => h0 ((casts_iff t).mp h)) ((prepares_iff t).mpr h5) (fun h => (attends_iff t).mp h h5) Set.univ _)
  isplitl [H0 H1 H2 H3 H4 H5 H6 H7 H8 H9 H10 H11 H12]
  · unfold ownIn
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact H12
  isplitl [HP]; · iapply (ownPrep_some c (Memref.whole cc0_scratch0) (Memref.whole cc0_scratch1) (Memref.whole cc0_scratch2) (Memref.whole cc0_scratch3) (Memref.whole cc0_scratch4) _ _); iexact HP
  isplitl [HW]; · iexact HW
  unfold ownIn
  iintro ⟨⟨H0, H1, H2, H3, H4, H5, H6, H7, H8, H9, H10, H11, H12⟩, HP, HW⟩
  isplitl [HP HW Hg]
  · isplitl [HP HW]
    · isplitl [HP]; · iexact HP
      iexact HW
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexists d13; iexact H13

/-- Consecutive points of a batch entry share their preparing point. -/
theorem prepPoint_pred (n : ℕ) (h : n < cfg0.N) (h5 : n % 5 ≠ 0) : prepPoint (n - 1) (by omega) = prepPoint n h :=
  Fin.ext (by simp only [prepPoint]; omega)

set_option maxHeartbeats 2000000 in
/-- An attending point. -/
theorem body_attend (c : Dev nD) (t : Fin cfg0.N) (h5 : t.val % 5 ≠ 0) :
    bodyPre m c t ⊢ wp frame (wpE (defs₀ (F := F)) Variants.none c none) Set.univ (bodyAt0 t) (fun _ => bodyPost m c t) := by
  have h0 : t.val ≠ 0 := by omega
  have hAt := (attends_iff t).mpr h5
  have hlive : (dats m 0 c).leavesExact 13 t = owns (c : Thread nD τ) (win0_13.stage (cfg0.slots t 13)) fullShare (outAt m c t) := by
    unfold Dat.leavesExact; rw [show cfg0.idle 13 (grid0.coords t) = false from out_live t h5, after_13]
  unfold bodyPre bodyPost bodyAt0
  simp only [before_0, before_1, before_2, before_3, before_4, before_5, before_6, before_7, before_8, before_9, before_10, before_11, before_12, leaves_0, leaves_1, leaves_2, leaves_3, leaves_4, leaves_5, leaves_6, leaves_7, leaves_8, leaves_9, leaves_10, leaves_11, leaves_12]
  rw [hlive, show (dats m 0 c).owesAt () t.succ = (dats m 0 c).owesAt () t.castSucc from rfl,
    show (dats m 0 c).Φ t.succ = inv m c (t.val + 1) t.isLt from rfl, inv_castSucc, inv_pos m c (t.val + 1) t.isLt (Nat.succ_ne_zero _)]
  rw [inv_pos m c t.val _ h0, prepPoint_pred t.val t.isLt h5,
    show prepPoint (t.val + 1 - 1) (by omega) = prepPoint t.val t.isLt from rfl]
  unfold ownPrep ownW
  iintro ⟨⟨⟨⟨S0, S1, S2, ⟨%e, ⟨S3, %he⟩⟩, S4⟩, ⟨S5, S6, S7⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply (attend_triple c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (iblk m c 12 t)
    (View.canon (qStack (blocksAt m c (prepPoint t.val t.isLt)) (castWeights m c)))
    (View.canon (kStack (blocksAt m c (prepPoint t.val t.isLt)) (castWeights m c)))
    (View.canon (vStack (blocksAt m c (prepPoint t.val t.isLt)) (castWeights m c))) e (castWeights m c).wout
    (fun h => h0 ((casts_iff t).mp h)) (fun h => h5 ((prepares_iff t).mp h)) hAt Set.univ _)
  isplitl [H12]; · iexact H12
  isplitl [H13]; · unfold some'; iexists _; iexact H13
  isplitl [S0]; · iexact S0
  isplitl [S1]; · iexact S1
  isplitl [S2]; · iexact S2
  isplitl [S3]; · iexact S3
  isplitl [S7]; · iexact S7
  rw [exclWord_congr t hAt _ e he]
  rw [show outAt m c t = _ from dif_pos hAt]
  iintro ⟨H12, H13, S0, S1, S2, S3, S7⟩
  isplitl [S0 S1 S2 S3 S4 S5 S6 S7 Hg]
  · isplitl [S0 S1 S2 S3 S4 S5 S6 S7]
    · isplitl [S0 S1 S2 S3 S4]
      · isplitl [S0]; · iexact S0
        isplitl [S1]; · iexact S1
        isplitl [S2]; · iexact S2
        isplitl [S3]
        · iexists e
          isplitl [S3]; · iexact S3
          ipureintro; exact he
        iexact S4
      isplitl [S5]; · iexact S5
      isplitl [S6]; · iexact S6
      iexact S7
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

/-- The body at any point. -/
theorem body_any (c : Dev nD) (t : Fin cfg0.N) :
    bodyPre m c t ⊢ wp frame (wpE (defs₀ (F := F)) Variants.none c none) Set.univ (bodyAt0 t) (fun _ => bodyPost m c t) := by
  by_cases h5 : t.val % 5 = 0
  · by_cases h0 : t.val = 0
    · exact body_first m c t h0
    · exact body_prep m c t h0 h5
  · exact body_attend m c t h5

theorem table_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, table_row]
  exact triple_restated (body_any m c t) rfl .rfl fun _ => .rfl

/-! ## The run -/

theorem inv_start (c : Dev nD) : Pipeline.ΦA spec0 c ⊢ (dats m 0 c).Φ 0 := by
  rw [show (dats m 0 c).Φ 0 = Pipeline.ΦA spec0 c from rfl]

theorem inv_end (c : Dev nD) : (dats m 0 c).Φ (Fin.last cfg0.N) ⊢ Pipeline.ΦA spec0 c := by
  rw [show (dats m 0 c).Φ (Fin.last cfg0.N) = inv m c cfg0.N le_rfl from rfl,
    inv_pos m c _ _ (by rw [show cfg0.N = 10 from N_0]; decide), start_eq]
  unfold ownW
  iintro ⟨⟨HP, ⟨S5, S6, S7⟩⟩, Hg⟩
  isplitl [HP S5 S6 S7]
  · ihave HQ := (ownPrep_some c (Memref.whole cc0_scratch0) (Memref.whole cc0_scratch1) (Memref.whole cc0_scratch2) (Memref.whole cc0_scratch3) (Memref.whole cc0_scratch4) _ _) $$ HP
    icases HQ with ⟨S0, S1, S2, S3, S4⟩
    isplitl [S0]; · iexact S0
    isplitl [S1]; · iexact S1
    isplitl [S2]; · iexact S2
    isplitl [S3]; · iexact S3
    isplitl [S4]; · iexact S4
    unfold some'
    isplitl [S5]; · iexists _; iexact S5
    isplitl [S6]; · iexists _; iexact S6
    iexists _; iexact S7
  iexact Hg

set_option backward.isDefEq.respectTransparency.types false in
/-- Every execution of the program ends with every array as the proof data computes it and every counter at zero. -/
theorem run_quiescent : θ_run defs (onTc (τ := τ) (main (F := F))) (s₀ m ρ)
    (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := inv_start m) (hout := inv_end m)

theorem run_arrays : θ_run defs (onTc (τ := τ) (main (F := F))) (s₀ m ρ) (Pipeline.FramePost cfgs (dats m) 0 (V m)) :=
  (θ_run defs _ _).mono (fun _ h => h.1) (run_quiescent m ρ)

/-- The frame: every execution ends with the argument arrays unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12))
      ∧ r.2.sem = fun _ => 0) :=
  θ_run_and (frame_of m ρ (dats m) (A_eq m) (run_arrays m ρ)) ((θ_run defs _ _).mono (fun _ h => h.2) (run_quiescent m ρ))

end Cert.KernelIdeal.Proof

end
-- ==== Proof.Transfer.lean ====
module

public import proofs.«01_k».proof.Proof.Region
public import proofs.«01_k».proof.Proof.Gen.Kernel.Frame
public import Idealize.ShloMosaic.PureOps.BitExact

/-!
The kernel at machine numbers is the idealized kernel with its one named constant read as the word it names; so its frame is
the frame proved for any format of numbers and any reading of the name.
-/

@[expose] public section

set_option maxRecDepth 100000

noncomputable section

namespace Cert.Proof

open Idealize.ShloMosaic Idealize.SL.Sem

/-- At machine numbers a named constant is the word it names. -/
local instance : Named Bits := ⟨fun _ _ _ b => FloatOps.ofBits _ b⟩

attribute [local instance] Cert.Kernel.Gen.facts Cert.KernelIdeal.Gen.facts

set_option maxHeartbeats 4000000 in
theorem main_same : Cert.Kernel.main (F := Bits) = Cert.KernelIdeal.main (F := Bits) := rfl

set_option maxHeartbeats 4000000 in
theorem regions_same : Cert.Kernel.pcfgs (F := Bits) = Cert.KernelIdeal.pcfgs (F := Bits) := rfl

set_option maxHeartbeats 4000000 in
theorem bodies_same : Cert.Kernel.defs₀ (F := Bits) = Cert.KernelIdeal.defs₀ (F := Bits) := by
  unfold Cert.Kernel.defs₀ Cert.KernelIdeal.defs₀
  refine congrArg Defs.onTc ?_
  funext l a
  match l, a with
  | 0, (t, s) => rfl

set_option maxHeartbeats 4000000 in
theorem defs_same : Cert.Kernel.defs (F := Bits) = Cert.KernelIdeal.defs (F := Bits) := by
  unfold Cert.Kernel.defs Cert.KernelIdeal.defs
  exact congrArg (fun d => Pipeline.defs Cert.KernelIdeal.pcfgs d) bodies_same

set_option maxHeartbeats 4000000 in
/-- The kernel's frame: every execution ends with the arguments unchanged and every counter at zero. -/
theorem kernel_frame (m : (ℓ : Loc Cert.Kernel.nD Cert.Kernel.τ Cert.Kernel.sig) → Buf (Elt Bits) ℓ) (g : Dev Cert.Kernel.nD → PrngReg) :
    θ_run (Cert.Kernel.defs (F := Bits)) (onTc (τ := Cert.Kernel.τ) (Cert.Kernel.main (F := Bits))) ⟨m, fun _ => 0, g⟩
      (fun r => (∀ c : Dev Cert.Kernel.nD,
        r.2.mem ((c.tc : Thread Cert.Kernel.nD Cert.Kernel.τ).loc Cert.Kernel.main_arg0) = m ((c.tc : Thread Cert.Kernel.nD Cert.Kernel.τ).loc Cert.Kernel.main_arg0)
        ∧ r.2.mem ((c.tc : Thread Cert.Kernel.nD Cert.Kernel.τ).loc Cert.Kernel.main_arg1) = m ((c.tc : Thread Cert.Kernel.nD Cert.Kernel.τ).loc Cert.Kernel.main_arg1)
        ∧ r.2.mem ((c.tc : Thread Cert.Kernel.nD Cert.Kernel.τ).loc Cert.Kernel.main_arg2) = m ((c.tc : Thread Cert.Kernel.nD Cert.Kernel.τ).loc Cert.Kernel.main_arg2)
        ∧ r.2.mem ((c.tc : Thread Cert.Kernel.nD Cert.Kernel.τ).loc Cert.Kernel.main_arg3) = m ((c.tc : Thread Cert.Kernel.nD Cert.Kernel.τ).loc Cert.Kernel.main_arg3)
        ∧ r.2.mem ((c.tc : Thread Cert.Kernel.nD Cert.Kernel.τ).loc Cert.Kernel.main_arg4) = m ((c.tc : Thread Cert.Kernel.nD Cert.Kernel.τ).loc Cert.Kernel.main_arg4)
        ∧ r.2.mem ((c.tc : Thread Cert.Kernel.nD Cert.Kernel.τ).loc Cert.Kernel.main_arg5) = m ((c.tc : Thread Cert.Kernel.nD Cert.Kernel.τ).loc Cert.Kernel.main_arg5)
        ∧ r.2.mem ((c.tc : Thread Cert.Kernel.nD Cert.Kernel.τ).loc Cert.Kernel.main_arg6) = m ((c.tc : Thread Cert.Kernel.nD Cert.Kernel.τ).loc Cert.Kernel.main_arg6)
        ∧ r.2.mem ((c.tc : Thread Cert.Kernel.nD Cert.Kernel.τ).loc Cert.Kernel.main_arg7) = m ((c.tc : Thread Cert.Kernel.nD Cert.Kernel.τ).loc Cert.Kernel.main_arg7)
        ∧ r.2.mem ((c.tc : Thread Cert.Kernel.nD Cert.Kernel.τ).loc Cert.Kernel.main_arg8) = m ((c.tc : Thread Cert.Kernel.nD Cert.Kernel.τ).loc Cert.Kernel.main_arg8)
        ∧ r.2.mem ((c.tc : Thread Cert.Kernel.nD Cert.Kernel.τ).loc Cert.Kernel.main_arg9) = m ((c.tc : Thread Cert.Kernel.nD Cert.Kernel.τ).loc Cert.Kernel.main_arg9)
        ∧ r.2.mem ((c.tc : Thread Cert.Kernel.nD Cert.Kernel.τ).loc Cert.Kernel.main_arg10) = m ((c.tc : Thread Cert.Kernel.nD Cert.Kernel.τ).loc Cert.Kernel.main_arg10)
        ∧ r.2.mem ((c.tc : Thread Cert.Kernel.nD Cert.Kernel.τ).loc Cert.Kernel.main_arg11) = m ((c.tc : Thread Cert.Kernel.nD Cert.Kernel.τ).loc Cert.Kernel.main_arg11)
        ∧ r.2.mem ((c.tc : Thread Cert.Kernel.nD Cert.Kernel.τ).loc Cert.Kernel.main_arg12) = m ((c.tc : Thread Cert.Kernel.nD Cert.Kernel.τ).loc Cert.Kernel.main_arg12))
        ∧ r.2.sem = fun _ => 0) := by
  rw [defs_same]
  exact Cert.KernelIdeal.Proof.frame (F := Bits) m g

end Cert.Proof

end
-- ==== Proof.Reference.lean ====
module

public import proofs.«01_k».proof.Proof.Gen.ReferenceIdeal.Run
public import proofs.«01_k».proof.Proof.Gen.ReferenceIdeal.Read
public import Idealize.ShloMosaic.Lib.Quiescent

/-!
The reference's run: it launches no kernel and declares no semaphore.
-/

@[expose] public section

set_option maxRecDepth 100000

noncomputable section

namespace Cert.ReferenceIdeal.Proof

open Idealize.ShloMosaic Idealize.SL.Sem

variable {F : FTy → Type} [FloatOps F]

/-- The reference runs to an end, leaves its arguments as they were, and leaves every semaphore counter at zero. -/
theorem frame (m : (ℓ : Loc nD τ sig) → Buf (Elt F) ℓ) (ρ : Dev nD → PrngReg) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) ∧ r.2.sem = fun _ => 0) :=
  (θ_run defs _ _).mono (fun r h => ⟨fun c => (h c).2, sem_eq_zero_of_no_sems rfl r.2⟩) (Value.run m ρ)

end Cert.ReferenceIdeal.Proof

end
-- ==== Proof.Spec.lean ====
module

public import Idealize.ShloMosaic.Lib.Pointwise
public import Idealize.ShloMosaic.Lib.IdealHost

/-!
The mathematics both programs compute, over extended reals: clipped projections, scores, a softmax average over three
of four sources, and the order that says which source is left out.
-/

@[expose] public section

noncomputable section

namespace Cert.Spec

open Idealize.ShloMosaic

/-! ## Clipping -/

/-- A number brought between -5 and 5. -/
def clip (x : EReal) : EReal := min (Ideal.ofBits .f32 0x40A00000#32) (max (Ideal.ofBits .f32 0xC0A00000#32) x)

/-- The same as a real number. -/
def clipR (x : EReal) : ℝ := (clip x).toReal

theorem ofBits_five : Ideal.ofBits .f32 0x40A00000#32 = ((5 : ℝ) : EReal) := by
  simp [Ideal.ofBits, Ideal.ieee, -EReal.coe_mul]; norm_num

theorem ofBits_neg_five : Ideal.ofBits .f32 0xC0A00000#32 = ((-5 : ℝ) : EReal) := by
  simp [Ideal.ofBits, Ideal.ieee, -EReal.coe_mul, -EReal.coe_neg]; norm_num

theorem ofBits_eighth_bf16 : Ideal.ofBits .bf16 0x3E00#16 = ((1 / 8 : ℝ) : EReal) := by
  simp [Ideal.ofBits, Ideal.ieee, -EReal.coe_mul]; norm_num

theorem ofBits_eighth_f32 : Ideal.ofBits .f32 0x3E000000#32 = ((1 / 8 : ℝ) : EReal) := by
  simp [Ideal.ofBits, Ideal.ieee, -EReal.coe_mul]; norm_num

theorem ofBits_two_f32 : Ideal.ofBits .f32 0x40000000#32 = ((2 : ℝ) : EReal) := by
  simp [Ideal.ofBits, Ideal.ieee, -EReal.coe_mul]; norm_num

theorem ofBits_bottom_f32 : Ideal.ofBits .f32 0xFF800000#32 = ⊥ := by
  simp [Ideal.ofBits, Ideal.ieee]

theorem ofBits_bottom_bf16 : Ideal.ofBits .bf16 0xFF80#16 = ⊥ := by
  simp [Ideal.ofBits, Ideal.ieee]

theorem ofBits_512_f32 : Ideal.ofBits .f32 0x44000000#32 = ((512 : ℝ) : EReal) := by
  simp [Ideal.ofBits, Ideal.ieee, -EReal.coe_mul]; norm_num

/-- The scale of the outer scores. -/
def outerScale : ℝ := (Real.sqrt 512)⁻¹

/-- Dividing by the root of 512 is multiplying by the scale, for infinite numbers too. -/
theorem div_root (x : EReal) : Ideal.div x (Ideal.sqrt (Ideal.ofBits .f32 0x44000000#32)) = x * (outerScale : EReal) := by
  rw [ofBits_512_f32, Ideal.sqrt_coe, if_neg (by norm_num), Ideal.div_coe (Real.sqrt_pos.mpr (by norm_num)).ne', one_div]
  rfl

/-- Clipping gives a real number. -/
theorem coe_clipR (x : EReal) : (clipR x : EReal) = clip x := by
  refine EReal.coe_toReal ?_ ?_
  · exact ne_of_lt (lt_of_le_of_lt (min_le_left _ _) (by rw [ofBits_five]; exact EReal.coe_lt_top _))
  · refine ne_of_gt (lt_of_lt_of_le (EReal.bot_lt_coe (-5)) ?_)
    unfold clip
    rw [ofBits_five, ofBits_neg_five]
    exact le_min (by exact_mod_cast (by norm_num : (-5 : ℝ) ≤ 5)) (le_max_left _ _)

/-! ## Averages weighted by exponentials -/

/-- The average of `v` weighted by the exponentials of `S`. -/
def soft {ι : Type} [Fintype ι] (S : ι → ℝ) (v : ι → EReal) : EReal :=
  (∑ i, (Real.exp (S i) : EReal) * v i) * ((∑ i, Real.exp (S i))⁻¹ : ℝ)

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A real factor that is not negative passes into a sum. -/
theorem mul_sum_real {ι : Type} (s : Finset ι) (r : ℝ) (hr : 0 ≤ r) (f : ι → EReal) :
    (r : EReal) * ∑ i ∈ s, f i = ∑ i ∈ s, (r : EReal) * f i := by
  classical
  induction s using Finset.induction_on with
  | empty => simp
  | insert a s ha ih =>
    rw [Finset.sum_insert ha, Finset.sum_insert ha, ← ih]
    exact EReal.left_distrib_of_nonneg_of_ne_top (by exact_mod_cast hr) (EReal.coe_ne_top _) _ _

theorem exp_sub (a b : ℝ) : Ideal.exp ((a : EReal) - (b : EReal)) = ((Real.exp (-b) * Real.exp a : ℝ) : EReal) := by
  rw [← EReal.coe_sub, ← Real.exp_add]
  show ((Real.exp (a - b) : ℝ) : EReal) = _
  congr 2; ring

theorem div_real (x : EReal) (z : ℝ) (hz : z ≠ 0) : Ideal.div x (z : EReal) = x * ((z⁻¹ : ℝ) : EReal) := by
  unfold Ideal.div
  rw [if_neg (by exact_mod_cast hz), EReal.coe_inv]

variable {ι : Type} [Fintype ι] [Nonempty ι]

theorem sum_exp_pos (S : ι → ℝ) : 0 < ∑ i, Real.exp (S i) :=
  Finset.sum_pos (fun i _ => Real.exp_pos _) Finset.univ_nonempty

theorem sum_exp_sub (S : ι → ℝ) (m : ℝ) :
    ∑ i, Ideal.exp ((S i : EReal) - (m : EReal)) = ((Real.exp (-m) * ∑ i, Real.exp (S i) : ℝ) : EReal) := by
  rw [Finset.mul_sum, coe_sum]
  exact Finset.sum_congr rfl fun i _ => exp_sub _ _

/-- The weighted sum, shifted by a real number, times the reciprocal of the weights' sum, so shifted. -/
theorem soft_of_sums (S : ι → ℝ) (m : ℝ) (v : ι → EReal) :
    (∑ i, Ideal.exp ((S i : EReal) - (m : EReal)) * v i) * Ideal.div 1 (∑ i, Ideal.exp ((S i : EReal) - (m : EReal)))
      = soft S v := by
  have hz := sum_exp_pos S
  have hm := Real.exp_pos (-m)
  rw [sum_exp_sub, div_real _ _ (mul_pos hm hz).ne', one_mul]
  have h : ∑ i, Ideal.exp ((S i : EReal) - (m : EReal)) * v i
      = (Real.exp (-m) : EReal) * ∑ i, (Real.exp (S i) : EReal) * v i := by
    rw [mul_sum_real _ _ hm.le]
    refine Finset.sum_congr rfl fun i _ => ?_
    rw [exp_sub, EReal.coe_mul, mul_assoc]
  rw [h, mul_comm (Real.exp (-m) : EReal), mul_assoc, ← EReal.coe_mul, soft]
  congr 2
  field_simp

/-- The sum weighted by the quotients, shifted by a real number. -/
theorem soft_of_quotients (S : ι → ℝ) (m : ℝ) (v : ι → EReal) :
    ∑ i, Ideal.div (Ideal.exp ((S i : EReal) - (m : EReal))) (∑ j, Ideal.exp ((S j : EReal) - (m : EReal))) * v i
      = soft S v := by
  have hz := sum_exp_pos S
  have hm := Real.exp_pos (-m)
  rw [sum_exp_sub, soft, mul_comm (∑ i, (Real.exp (S i) : EReal) * v i), mul_sum_real _ _ (inv_pos.mpr hz).le]
  refine Finset.sum_congr rfl fun i _ => ?_
  rw [div_real _ _ (mul_pos hm hz).ne', exp_sub, ← EReal.coe_mul, ← mul_assoc, ← EReal.coe_mul]
  congr 2
  field_simp

theorem soft_equiv {κ : Type} [Fintype κ] (e : κ ≃ ι) (S : ι → ℝ) (v : ι → EReal) :
    soft (fun k => S (e k)) (fun k => v (e k)) = soft S v := by
  unfold soft
  rw [e.sum_comp (fun i => (Real.exp (S i) : EReal) * v i), e.sum_comp (fun i => Real.exp (S i))]

/-- A greatest element, found by folding from minus infinity, is real. -/
theorem fold_max_real (f : ι → ℝ) : ∃ m : ℝ, (Finset.univ : Finset ι).fold max (⊥ : EReal) (fun i => (f i : EReal)) = m := by
  have h : ∀ s : Finset ι, (s.fold max (⊥ : EReal) (fun i => (f i : EReal)) = ⊥ ∧ s = ∅)
      ∨ ∃ m : ℝ, s.fold max (⊥ : EReal) (fun i => (f i : EReal)) = m := by
    classical
    intro s
    induction s using Finset.induction_on with
    | empty => exact .inl ⟨by simp, rfl⟩
    | insert a s ha ih =>
      refine .inr ?_
      rw [Finset.fold_insert ha]
      rcases ih with ⟨h, -⟩ | ⟨m, h⟩
      · exact ⟨f a, by rw [h]; exact max_eq_left bot_le⟩
      · exact ⟨max (f a) m, by rw [h]; exact (EReal.coe_strictMono.monotone.map_max).symm⟩
  rcases h Finset.univ with ⟨-, h⟩ | h
  · exact absurd h (Finset.univ_nonempty).ne_empty
  · exact h

/-! ## The computation on one batch row -/

/-- The arrays of one batch row: values and metadata of four sources, the weights and the bias. -/
structure Data where
  x : Fin 4 → Fin 256 → Fin 512 → EReal
  m : Fin 4 → Fin 256 → Fin 256 → EReal
  wv : Fin 512 → Fin 1536 → EReal
  wi : Fin 256 → Fin 1024 → EReal
  wo : Fin 256 → Fin 1024 → EReal
  wt : Fin 512 → Fin 512 → EReal
  bo : Fin 512 → EReal

/-- Column `c` of the third of a row that begins at `o`. -/
def shift {n : ℕ} (o : ℕ) (ho : o + 512 ≤ n) (c : Fin 512) : Fin n := ⟨o + c.val, by omega⟩

/-- Column `d` of head `h`. -/
def headCol (h : Fin 8) (d : Fin 64) : Fin 512 := ⟨64 * h.val + d.val, by omega⟩

namespace Data

variable (D : Data)

/-- A source's projected values. -/
def pv (w : Fin 4) (p : Fin 256) (c : Fin 1536) : EReal := ∑ d, D.x w p d * D.wv d c

/-- A source's projected metadata. -/
def pm (w : Fin 4) (p : Fin 256) (c : Fin 1024) : EReal := ∑ d, D.m w p d * D.wi d c

def vquery (w : Fin 4) (p : Fin 256) (c : Fin 512) : ℝ := clipR (D.pv w p (shift 0 (by omega) c))
def vkey (w : Fin 4) (p : Fin 256) (c : Fin 512) : ℝ := clipR (D.pv w p (shift 512 (by omega) c))
def value (w : Fin 4) (p : Fin 256) (c : Fin 512) : EReal := D.pv w p (shift 1024 (by omega) c)
def mquery (w : Fin 4) (p : Fin 256) (c : Fin 512) : ℝ := clipR (D.pm w p (shift 0 (by omega) c))
def mkey (w : Fin 4) (p : Fin 256) (c : Fin 512) : ℝ := clipR (D.pm w p (shift 512 (by omega) c))

/-- The score of row `p` of source `s` with row `k` of source `w`, in head `h`. -/
def score (s : Fin 4) (h : Fin 8) (p : Fin 256) (w : Fin 4) (k : Fin 256) : ℝ :=
  (∑ d, D.vquery s p (headCol h d) * D.vkey w k (headCol h d)) * (1 / 8)
    + (∑ d, D.mquery s p (headCol h d) * D.mkey w k (headCol h d)) * (1 / 8)

/-- What head `h` gives for row `p` of source `s` when source `e` is left out. -/
def head (s e : Fin 4) (h : Fin 8) (p : Fin 256) (d : Fin 64) : EReal :=
  soft (fun r : Fin 3 × Fin 256 => D.score s h p (e.succAbove r.1) r.2)
    (fun r => D.value (e.succAbove r.1) r.2 (headCol h d))

/-- A row of the result. -/
def out (s e : Fin 4) (p : Fin 256) (n : Fin 512) : EReal :=
  ∑ c : Fin 512, D.head s e ⟨c.val / 64, by omega⟩ p ⟨c.val % 64, by omega⟩ * D.wt c n + D.bo n

/-- A source's metadata averaged over its rows. -/
def mean (w : Fin 4) (j : Fin 256) : EReal := Ideal.div (∑ p, D.m w p j) (Ideal.ofBits .f32 0x43800000#32)

def outer (w : Fin 4) (c : Fin 1024) : EReal := ∑ j, D.mean w j * D.wo j c

/-- The score of source `s` with source `w`. -/
def outerScore (s w : Fin 4) : ℝ :=
  (∑ c, clipR (D.outer s (shift 0 (by omega) c)) * clipR (D.outer w (shift 512 (by omega) c))) * outerScale

/-- How near source `w` is to source `s`; a source is nearest to itself. -/
def near (s w : Fin 4) : ℝ :=
  Real.exp (D.outerScore s w) / (∑ j, Real.exp (D.outerScore s j)) + 2 * (if s = w then 1 else 0)

theorem outerScore_coe (s w : Fin 4) :
    (∑ c : Fin 512, clip (D.outer s (shift 0 (by omega) c)) * clip (D.outer w (shift 512 (by omega) c))) * (outerScale : EReal)
      = (D.outerScore s w : EReal) := by
  rw [outerScore, EReal.coe_mul, coe_sum]
  simp only [EReal.coe_mul, coe_clipR]

theorem outerScore_div (s w : Fin 4) :
    Ideal.div (∑ c : Fin 512, clip (D.outer s (shift 0 (by omega) c)) * clip (D.outer w (shift 512 (by omega) c)))
      (Ideal.sqrt (Ideal.ofBits .f32 0x44000000#32)) = (D.outerScore s w : EReal) := by
  rw [div_root, outerScore_coe]

/-- Nearness, computed with its scores shifted by a real number. -/
theorem near_coe (s w : Fin 4) (m : ℝ) :
    Ideal.div (Ideal.exp ((D.outerScore s w : EReal) - (m : EReal))) (∑ j, Ideal.exp ((D.outerScore s j : EReal) - (m : EReal)))
        + ((2 : ℝ) : EReal) * (if s = w then 1 else 0) = (D.near s w : EReal) := by
  have hz := sum_exp_pos (D.outerScore s)
  have hm := Real.exp_pos (-m)
  rw [sum_exp_sub, div_real _ _ (mul_pos hm hz).ne', exp_sub, ← EReal.coe_mul, near]
  have h : ((if s = w then 1 else 0 : ℝ) : EReal) = (if s = w then 1 else 0) := by split <;> simp
  rw [EReal.coe_add, EReal.coe_mul 2, h]
  congr 2
  field_simp

end Data

/-! ## Which source is left out -/

/-- Position `k` comes before position `c`: its number is greater, or equal and `k` is smaller. -/
def Before (r : Fin 4 → ℝ) (k c : Fin 4) : Prop := r c < r k ∨ (r k = r c ∧ k < c)

/-- Every other position comes before `e`. -/
def IsLast (r : Fin 4 → ℝ) (e : Fin 4) : Prop := ∀ k, k ≠ e → Before r k e

theorem before_total (r : Fin 4 → ℝ) {k c : Fin 4} (h : k ≠ c) : Before r k c ∨ Before r c k := by
  unfold Before
  rcases lt_trichotomy (r k) (r c) with h1 | h1 | h1
  · exact .inr (.inl h1)
  · rcases lt_or_gt_of_ne h with h2 | h2
    · exact .inl (.inr ⟨h1, h2⟩)
    · exact .inr (.inr ⟨h1.symm, h2⟩)
  · exact .inl (.inl h1)

theorem before_asymm (r : Fin 4 → ℝ) {k c : Fin 4} (h : Before r k c) : ¬Before r c k := by
  unfold Before at *
  rintro (h' | ⟨h1, h2⟩) <;> rcases h with h | ⟨h3, h4⟩
  · exact lt_asymm h h'
  · exact absurd h3 h'.ne
  · exact absurd h1 h.ne
  · exact lt_asymm h2 h4

theorem before_trans (r : Fin 4 → ℝ) {a b c : Fin 4} (h : Before r a b) (h' : Before r b c) : Before r a c := by
  unfold Before at *
  rcases h with h | ⟨h1, h2⟩ <;> rcases h' with h' | ⟨h3, h4⟩
  · exact .inl (h'.trans h)
  · exact .inl (h3 ▸ h)
  · exact .inl (h1 ▸ h')
  · exact .inr ⟨h1.trans h3, h2.trans h4⟩

theorem isLast_unique (r : Fin 4 → ℝ) {e e' : Fin 4} (h : IsLast r e) (h' : IsLast r e') : e = e' := by
  by_contra hn
  exact before_asymm r (h e' (Ne.symm hn)) (h' e hn)

/-- A source is nearer to itself than to any other. -/
theorem Data.near_self (D : Data) {s w : Fin 4} (h : w ≠ s) : D.near s w < D.near s s := by
  unfold Data.near
  have hz := sum_exp_pos (D.outerScore s)
  rw [if_neg (Ne.symm h), if_pos rfl]
  have h1 : Real.exp (D.outerScore s w) / (∑ j, Real.exp (D.outerScore s j)) ≤ 1 := by
    rw [div_le_one hz]
    exact Finset.single_le_sum (f := fun j => Real.exp (D.outerScore s j)) (fun i _ => (Real.exp_pos _).le) (Finset.mem_univ w)
  have h2 : 0 < Real.exp (D.outerScore s s) / (∑ j, Real.exp (D.outerScore s j)) := div_pos (Real.exp_pos _) hz
  linarith

/-- Some position comes last. -/
theorem exists_isLast (r : Fin 4 → ℝ) : ∃ e, IsLast r e := by
  have pick : ∀ a b : Fin 4, ∃ c, (c = a ∨ Before r a c) ∧ (c = b ∨ Before r b c) := fun a b => by
    by_cases h : a = b
    · exact ⟨a, .inl rfl, .inl h⟩
    · rcases before_total r h with h | h
      · exact ⟨b, .inr h, .inl rfl⟩
      · exact ⟨a, .inl rfl, .inr h⟩
  have step : ∀ {a b c : Fin 4}, (b = a ∨ Before r a b) → (c = b ∨ Before r b c) → (c = a ∨ Before r a c) := by
    rintro a b c (rfl | h) (rfl | h')
    · exact .inl rfl
    · exact .inr h'
    · exact .inr h
    · exact .inr (before_trans r h h')
  obtain ⟨x, hx0, hx1⟩ := pick 0 1
  obtain ⟨y, hy0, hy1⟩ := pick 2 3
  obtain ⟨z, hzx, hzy⟩ := pick x y
  refine ⟨z, fun k hk => ?_⟩
  have all : ∀ k, z = k ∨ Before r k z := fun k => match k with
    | 0 => step hx0 hzx
    | 1 => step hx1 hzx
    | 2 => step hy0 hzy
    | 3 => step hy1 hzy
  exact (all k).resolve_left (Ne.symm hk)

end Cert.Spec

end
-- ==== Proof.Concat.lean ====
module

public import proofs.«01_k».proof.Proof.Spec
public import Idealize.ShloMosaic.Lib.Pipeline.Value

/-!
Arrays of 256 rows laid side by side, read at a column.
-/

@[expose] public section

set_option maxRecDepth 65536

noncomputable section

namespace Cert.Spec

open Idealize.ShloMosaic

/-- Arrays laid side by side, read at row `p` and column `c`: piece `k`, which begins at column `pre`. -/
theorem side_by_side {N n : ℕ} {α : Type} (xs : List ((s : Shape) × (s.Idx → α)))
    (h : Shape.Concatenates (xs.map (·.1)) ⟨2, ![N, n]⟩ 1) (p : Fin N) (c : Fin n)
    (k : ℕ) (hk : k < xs.length) (w : ℕ) (y : (⟨2, ![N, w]⟩ : Shape).Idx → α) (hxk : xs[k] = ⟨⟨2, ![N, w]⟩, y⟩) (pre : ℕ)
    (shapes : List Shape) (hs : xs.map (·.1) = shapes)
    (hpre : ((shapes.take k).map fun s => if h : s.rank = 2 then s.size ((1 : Fin 2).cast h.symm) else 0).sum = pre)
    (d : Fin w) (hc : pre + d.val = c.val) :
    concatenate ⟨2, ![N, n]⟩ 1 xs h (ix2 p c) = y (ix2 p d) := by
  refine concatenate_apply_piece (t := ⟨2, ![N, n]⟩) (1 : Fin 2) xs h (ix2 p c) k hk _ y hxk rfl pre (by rw [← hpre, ← hs, List.map_take]) (ix2 p d)
    (fun b hb => ?_) (by exact hc)
  match b with
  | ⟨0, _⟩ => rfl
  | ⟨1, _⟩ => exact absurd rfl hb

variable {α : Type}

/-- Sixteen arrays of 64 columns side by side. -/
theorem sixteen_apply (a0 a1 a2 a3 a4 a5 a6 a7 a8 a9 a10 a11 a12 a13 a14 a15 : (⟨2, ![256, 64]⟩ : Shape).Idx → α)
    (h : Shape.Concatenates (([⟨⟨2, ![256, 64]⟩, a0⟩, ⟨⟨2, ![256, 64]⟩, a1⟩, ⟨⟨2, ![256, 64]⟩, a2⟩, ⟨⟨2, ![256, 64]⟩, a3⟩,
      ⟨⟨2, ![256, 64]⟩, a4⟩, ⟨⟨2, ![256, 64]⟩, a5⟩, ⟨⟨2, ![256, 64]⟩, a6⟩, ⟨⟨2, ![256, 64]⟩, a7⟩, ⟨⟨2, ![256, 64]⟩, a8⟩,
      ⟨⟨2, ![256, 64]⟩, a9⟩, ⟨⟨2, ![256, 64]⟩, a10⟩, ⟨⟨2, ![256, 64]⟩, a11⟩, ⟨⟨2, ![256, 64]⟩, a12⟩, ⟨⟨2, ![256, 64]⟩, a13⟩,
      ⟨⟨2, ![256, 64]⟩, a14⟩, ⟨⟨2, ![256, 64]⟩, a15⟩] : List ((s : Shape) × (s.Idx → α))).map (·.1)) ⟨2, ![256, 1024]⟩ 1)
    (p : Fin 256) (n : Fin 16) (d : Fin 64) (c : Fin 1024) (hc : 64 * n.val + d.val = c.val) :
    concatenate ⟨2, ![256, 1024]⟩ 1 [⟨⟨2, ![256, 64]⟩, a0⟩, ⟨⟨2, ![256, 64]⟩, a1⟩, ⟨⟨2, ![256, 64]⟩, a2⟩, ⟨⟨2, ![256, 64]⟩, a3⟩,
      ⟨⟨2, ![256, 64]⟩, a4⟩, ⟨⟨2, ![256, 64]⟩, a5⟩, ⟨⟨2, ![256, 64]⟩, a6⟩, ⟨⟨2, ![256, 64]⟩, a7⟩, ⟨⟨2, ![256, 64]⟩, a8⟩,
      ⟨⟨2, ![256, 64]⟩, a9⟩, ⟨⟨2, ![256, 64]⟩, a10⟩, ⟨⟨2, ![256, 64]⟩, a11⟩, ⟨⟨2, ![256, 64]⟩, a12⟩, ⟨⟨2, ![256, 64]⟩, a13⟩,
      ⟨⟨2, ![256, 64]⟩, a14⟩, ⟨⟨2, ![256, 64]⟩, a15⟩] h (ix2 p c)
      = (![a0, a1, a2, a3, a4, a5, a6, a7, a8, a9, a10, a11, a12, a13, a14, a15] : Fin 16 → _) n (ix2 p d) :=
  concatenate_ofFn_apply (t := ⟨2, ![256, 1024]⟩) (s₁ := ⟨2, ![256, 64]⟩) 1
    (![a0, a1, a2, a3, a4, a5, a6, a7, a8, a9, a10, a11, a12, a13, a14, a15] : Fin 16 → _) h rfl 64 rfl (ix2 p c) n
    (by show c.val / 64 = n.val; omega) (ix2 p d) (by show d.val = c.val % 64; omega) fun b hb => by
      match b with
      | ⟨0, _⟩ => rfl
      | ⟨1, _⟩ => exact absurd rfl hb

/-- Eight arrays of 64 columns side by side. -/
theorem eight_apply (a0 a1 a2 a3 a4 a5 a6 a7 : (⟨2, ![256, 64]⟩ : Shape).Idx → α)
    (h : Shape.Concatenates (([⟨⟨2, ![256, 64]⟩, a0⟩, ⟨⟨2, ![256, 64]⟩, a1⟩, ⟨⟨2, ![256, 64]⟩, a2⟩, ⟨⟨2, ![256, 64]⟩, a3⟩,
      ⟨⟨2, ![256, 64]⟩, a4⟩, ⟨⟨2, ![256, 64]⟩, a5⟩, ⟨⟨2, ![256, 64]⟩, a6⟩, ⟨⟨2, ![256, 64]⟩, a7⟩]
        : List ((s : Shape) × (s.Idx → α))).map (·.1)) ⟨2, ![256, 512]⟩ 1)
    (p : Fin 256) (n : Fin 8) (d : Fin 64) (c : Fin 512) (hc : 64 * n.val + d.val = c.val) :
    concatenate ⟨2, ![256, 512]⟩ 1 [⟨⟨2, ![256, 64]⟩, a0⟩, ⟨⟨2, ![256, 64]⟩, a1⟩, ⟨⟨2, ![256, 64]⟩, a2⟩, ⟨⟨2, ![256, 64]⟩, a3⟩,
      ⟨⟨2, ![256, 64]⟩, a4⟩, ⟨⟨2, ![256, 64]⟩, a5⟩, ⟨⟨2, ![256, 64]⟩, a6⟩, ⟨⟨2, ![256, 64]⟩, a7⟩] h (ix2 p c)
      = (![a0, a1, a2, a3, a4, a5, a6, a7] : Fin 8 → _) n (ix2 p d) :=
  concatenate_ofFn_apply (t := ⟨2, ![256, 512]⟩) (s₁ := ⟨2, ![256, 64]⟩) 1
    (![a0, a1, a2, a3, a4, a5, a6, a7] : Fin 8 → _) h rfl 64 rfl (ix2 p c) n
    (by show c.val / 64 = n.val; omega) (ix2 p d) (by show d.val = c.val % 64; omega) fun b hb => by
      match b with
      | ⟨0, _⟩ => rfl
      | ⟨1, _⟩ => exact absurd rfl hb

/-- Eight arrays of 64 columns, each followed by one column `o` and 63 columns `z`. -/
abbrev padded (a0 a1 a2 a3 a4 a5 a6 a7 : (⟨2, ![256, 64]⟩ : Shape).Idx → α) (o : (⟨2, ![256, 1]⟩ : Shape).Idx → α)
    (z : (⟨2, ![256, 63]⟩ : Shape).Idx → α) : List ((s : Shape) × (s.Idx → α)) :=
  [⟨⟨2, ![256, 64]⟩, a0⟩, ⟨⟨2, ![256, 1]⟩, o⟩, ⟨⟨2, ![256, 63]⟩, z⟩, ⟨⟨2, ![256, 64]⟩, a1⟩, ⟨⟨2, ![256, 1]⟩, o⟩, ⟨⟨2, ![256, 63]⟩, z⟩,
    ⟨⟨2, ![256, 64]⟩, a2⟩, ⟨⟨2, ![256, 1]⟩, o⟩, ⟨⟨2, ![256, 63]⟩, z⟩, ⟨⟨2, ![256, 64]⟩, a3⟩, ⟨⟨2, ![256, 1]⟩, o⟩, ⟨⟨2, ![256, 63]⟩, z⟩,
    ⟨⟨2, ![256, 64]⟩, a4⟩, ⟨⟨2, ![256, 1]⟩, o⟩, ⟨⟨2, ![256, 63]⟩, z⟩, ⟨⟨2, ![256, 64]⟩, a5⟩, ⟨⟨2, ![256, 1]⟩, o⟩, ⟨⟨2, ![256, 63]⟩, z⟩,
    ⟨⟨2, ![256, 64]⟩, a6⟩, ⟨⟨2, ![256, 1]⟩, o⟩, ⟨⟨2, ![256, 63]⟩, z⟩, ⟨⟨2, ![256, 64]⟩, a7⟩, ⟨⟨2, ![256, 1]⟩, o⟩, ⟨⟨2, ![256, 63]⟩, z⟩]

theorem padded_apply (a0 a1 a2 a3 a4 a5 a6 a7 : (⟨2, ![256, 64]⟩ : Shape).Idx → α) (o : (⟨2, ![256, 1]⟩ : Shape).Idx → α)
    (z : (⟨2, ![256, 63]⟩ : Shape).Idx → α)
    (h : Shape.Concatenates ((padded a0 a1 a2 a3 a4 a5 a6 a7 o z).map (·.1)) ⟨2, ![256, 1024]⟩ 1)
    (p : Fin 256) (n : Fin 8) (d : Fin 64) (c : Fin 1024) (hc : 128 * n.val + d.val = c.val) :
    concatenate ⟨2, ![256, 1024]⟩ 1 (padded a0 a1 a2 a3 a4 a5 a6 a7 o z) h (ix2 p c)
      = (![a0, a1, a2, a3, a4, a5, a6, a7] : Fin 8 → _) n (ix2 p d) :=
  side_by_side _ h p c (3 * n.val) (by show 3 * n.val < 24; omega) 64
    ((![a0, a1, a2, a3, a4, a5, a6, a7] : Fin 8 → _) n)
    (by fin_cases n <;> rfl) (128 * n.val)
    (List.flatten (List.replicate 8 [⟨2, ![256, 64]⟩, ⟨2, ![256, 1]⟩, ⟨2, ![256, 63]⟩])) rfl
    (by clear hc c; revert n; decide +kernel) d hc

theorem padded_apply_one (a0 a1 a2 a3 a4 a5 a6 a7 : (⟨2, ![256, 64]⟩ : Shape).Idx → α) (o : (⟨2, ![256, 1]⟩ : Shape).Idx → α)
    (z : (⟨2, ![256, 63]⟩ : Shape).Idx → α)
    (h : Shape.Concatenates ((padded a0 a1 a2 a3 a4 a5 a6 a7 o z).map (·.1)) ⟨2, ![256, 1024]⟩ 1)
    (p : Fin 256) (n : Fin 8) (c : Fin 1024) (hc : 128 * n.val + 64 = c.val) :
    concatenate ⟨2, ![256, 1024]⟩ 1 (padded a0 a1 a2 a3 a4 a5 a6 a7 o z) h (ix2 p c) = o (ix2 p 0) :=
  side_by_side _ h p c (3 * n.val + 1) (by show 3 * n.val + 1 < 24; omega) 1 o (by fin_cases n <;> rfl) (128 * n.val + 64)
    (List.flatten (List.replicate 8 [⟨2, ![256, 64]⟩, ⟨2, ![256, 1]⟩, ⟨2, ![256, 63]⟩])) rfl
    (by clear hc c; revert n; decide +kernel) 0 hc

end Cert.Spec

end
-- ==== Proof.Reads.lean ====
module

public import proofs.«01_k».proof.Proof.ModelCast
public import proofs.«01_k».proof.Proof.Concat

/-!
The pieces the body computes, read at an index over extended reals.
-/

@[expose] public section

set_option maxRecDepth 65536

noncomputable section

namespace Cert.KernelIdeal.Proof

open Idealize.ShloMosaic
open Cert.KernelIdeal.Gen
open Cert.Spec (clip clipR coe_clipR shift headCol)

variable (x : Vec Ideal S1x256x512 .f32) (m : Vec Ideal S1x256x256 .f32) (W : Narrow Ideal)

/-- The projected values. -/
theorem pay8_apply (w : Vec Ideal S512x1536 .bf16) (p : Fin 256) (c : Fin 1536) :
    k0_pay8 x w (ix2 p c) = ∑ d : Fin 512, x (ix3 0 p d) * w (ix2 d c) := by
  pointwise [k0_pay8, dot_S256x512_S512x1536_S256x1536_1_0_0_1_n_n]

/-- The projected metadata. -/
theorem pay10_apply (w : Vec Ideal S256x1024 .bf16) (p : Fin 256) (c : Fin 1024) :
    k0_pay10 m w (ix2 p c) = ∑ d : Fin 256, m (ix3 0 p d) * w (ix2 d c) := by
  pointwise [k0_pay10, k0_pay9, dot_S256x256_S256x1024_S256x1024_1_0_0_1_n_n]

/-- The clipped value queries, scaled. -/
theorem pay11_apply (w : Vec Ideal S512x1536 .bf16) (p : Fin 256) (c : Fin 512) :
    k0_pay11 x w (ix2 p c) = clip (k0_pay8 x w (ix2 p (shift 0 (by omega) c))) * Ideal.ofBits .bf16 0x3E00#16 := by
  pointwise [k0_pay11, clip, shift]

/-- The clipped value keys. -/
theorem pay12_apply (w : Vec Ideal S512x1536 .bf16) (p : Fin 256) (c : Fin 512) :
    k0_pay12 x w (ix2 p c) = clip (k0_pay8 x w (ix2 p (shift 512 (by omega) c))) := by
  pointwise [k0_pay12, clip, shift]

theorem pay13_apply (w : Vec Ideal S512x1536 .bf16) (p : Fin 256) (c : Fin 512) :
    k0_pay13 x w (ix2 p c) = k0_pay8 x w (ix2 p (shift 1024 (by omega) c)) := by
  pointwise [k0_pay13, shift]

/-- The clipped metadata queries. -/
theorem pay14_apply (w : Vec Ideal S256x1024 .bf16) (p : Fin 256) (c : Fin 512) :
    k0_pay14 m w (ix2 p c) = clip (k0_pay10 m w (ix2 p (shift 0 (by omega) c))) := by
  pointwise [k0_pay14, clip, shift]

/-- The first half of a head's queries. -/
theorem pay23_low (a b : FVec Ideal S256x512 .bf16) (r : Ideal .bf16) (p : Fin 256) (h : Fin 8) (d : Fin 64) :
    k0_pay23 a b r (ix2 p ⟨128 * h.val + d.val, by omega⟩) = a (ix2 p (headCol h d)) := by
  unfold k0_pay23
  simp only [shapeCast_self]
  refine (Cert.Spec.sixteen_apply _ _ _ _ _ _ _ _ _ _ _ _ _ _ _ _
    concatenates_S256x64_S256x64_S256x64_S256x64_S256x64_S256x64_S256x64_S256x64_S256x64_S256x64_S256x64_S256x64_S256x64_S256x64_S256x64_S256x64_S256x1024_d1
    p ⟨2 * h.val, by omega⟩ d _ ?_).trans ?_
  · show 64 * (2 * h.val) + d.val = 128 * h.val + d.val; omega
  fin_cases h <;> exact congrArg a (funext fun k => match k with
    | ⟨0, _⟩ => Fin.ext (Nat.zero_add _)
    | ⟨1, _⟩ => Fin.ext rfl)

/-- The second half. -/
theorem pay23_high (a b : FVec Ideal S256x512 .bf16) (r : Ideal .bf16) (p : Fin 256) (h : Fin 8) (d : Fin 64) :
    k0_pay23 a b r (ix2 p ⟨128 * h.val + (64 + d.val), by omega⟩) = b (ix2 p (headCol h d)) * r := by
  unfold k0_pay23
  simp only [shapeCast_self]
  refine (Cert.Spec.sixteen_apply _ _ _ _ _ _ _ _ _ _ _ _ _ _ _ _
    concatenates_S256x64_S256x64_S256x64_S256x64_S256x64_S256x64_S256x64_S256x64_S256x64_S256x64_S256x64_S256x64_S256x64_S256x64_S256x64_S256x64_S256x1024_d1
    p ⟨2 * h.val + 1, by omega⟩ d _ ?_).trans ?_
  · show 64 * (2 * h.val + 1) + d.val = 128 * h.val + (64 + d.val); omega
  fin_cases h <;> exact congrArg (fun i => b i * r) (funext fun k => match k with
    | ⟨0, _⟩ => Fin.ext (Nat.zero_add _)
    | ⟨1, _⟩ => Fin.ext rfl)

/-- The first half of a head's keys. -/
theorem pay24_low (a : FVec Ideal S256x1024 .bf16) (b : FVec Ideal S256x512 .bf16) (p : Fin 256) (h : Fin 8) (d : Fin 64) :
    k0_pay24 a b (ix2 p ⟨128 * h.val + d.val, by omega⟩) = b (ix2 p (headCol h d)) := by
  refine (Cert.Spec.sixteen_apply _ _ _ _ _ _ _ _ _ _ _ _ _ _ _ _
    concatenates_S256x64_S256x64_S256x64_S256x64_S256x64_S256x64_S256x64_S256x64_S256x64_S256x64_S256x64_S256x64_S256x64_S256x64_S256x64_S256x64_S256x1024_d1
    p ⟨2 * h.val, by omega⟩ d _ ?_).trans ?_
  · show 64 * (2 * h.val) + d.val = 128 * h.val + d.val; omega
  fin_cases h <;> exact congrArg b (funext fun k => match k with
    | ⟨0, _⟩ => Fin.ext (Nat.zero_add _)
    | ⟨1, _⟩ => Fin.ext rfl)

/-- The second half, clipped. -/
theorem pay24_high (a : FVec Ideal S256x1024 .bf16) (b : FVec Ideal S256x512 .bf16) (p : Fin 256) (h : Fin 8) (d : Fin 64) :
    k0_pay24 a b (ix2 p ⟨128 * h.val + (64 + d.val), by omega⟩) = clip (a (ix2 p (shift 512 (by omega) (headCol h d)))) := by
  refine (Cert.Spec.sixteen_apply _ _ _ _ _ _ _ _ _ _ _ _ _ _ _ _
    concatenates_S256x64_S256x64_S256x64_S256x64_S256x64_S256x64_S256x64_S256x64_S256x64_S256x64_S256x64_S256x64_S256x64_S256x64_S256x64_S256x64_S256x1024_d1
    p ⟨2 * h.val + 1, by omega⟩ d _ ?_).trans ?_
  · show 64 * (2 * h.val + 1) + d.val = 128 * h.val + (64 + d.val); omega
  fin_cases h <;> exact congrArg (fun i => clip (a i)) (funext fun k => match k with
    | ⟨0, _⟩ => Fin.ext ((Nat.zero_add _).trans (Nat.zero_add _))
    | ⟨1, _⟩ => Fin.ext rfl)

/-- A head's stored values. -/
theorem vRows_value (w : Narrow Ideal) (p : Fin 256) (h : Fin 8) (d : Fin 64) :
    vRows x w (ix2 p ⟨128 * h.val + d.val, by omega⟩) = k0_pay13 x w.wqkv (ix2 p (headCol h d)) := by
  unfold vRows k0_pay26
  generalize k0_pay13 x w.wqkv = a
  simp only [shapeCast_self]
  refine (Cert.Spec.padded_apply _ _ _ _ _ _ _ _ _ _ _ p h d _ rfl).trans ?_
  fin_cases h <;> exact congrArg a (funext fun k => match k with
    | ⟨0, _⟩ => Fin.ext (Nat.zero_add _)
    | ⟨1, _⟩ => Fin.ext rfl)

/-- The column after a head's stored values holds ones. -/
theorem vRows_one (w : Narrow Ideal) (p : Fin 256) (h : Fin 8) :
    vRows x w (ix2 p ⟨128 * h.val + 64, by omega⟩) = 1 := by
  unfold vRows k0_pay26
  generalize k0_pay13 x w.wqkv = a
  simp only [shapeCast_self]
  refine (Cert.Spec.padded_apply_one _ _ _ _ _ _ _ _ _ _ _ p h _ rfl).trans ?_
  exact Ideal.ofBits_one_bf16

theorem kRows_eq : kRows x m W = k0_pay24 (k0_pay10 m W.winner) (k0_pay12 x W.wqkv) := by
  unfold kRows k0_pay25
  simp only [shapeCast_self]

/-- A source's mean over its rows. -/
theorem meanRow_apply (j : Fin 256) :
    meanRow m (ix2 0 j) = Ideal.div (∑ p : Fin 256, m (ix3 0 p j)) (Ideal.ofBits .f32 0x43800000#32) := by
  pointwise [meanRow, k0_pay27, k0_pay9]

end Cert.KernelIdeal.Proof

end
-- ==== Proof.Heads.lean ====
module

public import proofs.«01_k».proof.Proof.Reads

/-!
One head's part of a block: the average of the values weighted by the exponentials of the scores.
-/

@[expose] public section

set_option maxRecDepth 65536

noncomputable section

namespace Cert.KernelIdeal.Proof

open Idealize.ShloMosaic
open Cert.KernelIdeal.Gen
open Cert.Spec (soft soft_of_sums fold_max_real)

variable (q : FVec Ideal S256x128 .bf16) (k v : Fin 3 → FVec Ideal S256x128 .bf16)

/-- A head's part, when the scores are real and the values carry a column of ones: an average weighted by exponentials. -/
theorem headOut_soft (i : Fin 256) (j : Fin 64) (S : Fin 3 × Fin 256 → ℝ)
    (hS : ∀ r x, ∑ d : Fin 128, q (ix2 i d) * k r (ix2 x d) = (S (r, x) : EReal)) (h1 : ∀ r x, v r (ix2 x 64) = 1) :
    headOut q (k 0) (k 1) (k 2) (v 0) (v 1) (v 2) (ix2 i j) = soft S (fun r => v r.1 (ix2 r.2 ⟨j.val, by omega⟩)) := by
  pointwise [headOut, k0_pay127, k0_pay122, k0_pay123, k0_pay124, k0_pay125, k0_pay126, dot_S256x128_S256x128_S256x256_1_1_0_0_n_n,
    dot_S256x256_S256x128_S256x128_1_0_0_1_n_n]
  obtain ⟨m0, e0⟩ := fold_max_real (fun x => S (0, x))
  obtain ⟨m1, e1⟩ := fold_max_real (fun x => S (1, x))
  obtain ⟨m2, e2⟩ := fold_max_real (fun x => S (2, x))
  have hm : max (max (m0 : EReal) m1) m2 = ((max (max m0 m1) m2 : ℝ) : EReal) := by
    rw [EReal.coe_strictMono.monotone.map_max, EReal.coe_strictMono.monotone.map_max]
  simp only [hS, h1, mul_one, Cert.Spec.ofBits_bottom_bf16, e0, e1, e2, hm]
  rw [← soft_of_sums S (max (max m0 m1) m2)]
  simp only [Fintype.sum_prod_type, Fin.sum_univ_three]

end Cert.KernelIdeal.Proof

end
-- ==== Proof.Near.lean ====
module

public import proofs.«01_k».proof.Proof.Reads

/-!
How near the sources are to each other, and which one each leaves out.
-/

@[expose] public section

set_option maxRecDepth 65536

noncomputable section

namespace Cert.KernelIdeal.Proof

open Idealize.ShloMosaic
open Cert.KernelIdeal.Gen
open Cert.Spec (clip clipR coe_clipR shift)

/-- "Greater or equal", said of a pair both ways. -/
theorem ge_bit (x y : EReal) :
    IntOp.ori (BitVec.ofBool (decide (y < x))) (BitVec.ofBool (decide (x = y))) = BitVec.ofBool (!decide (x < y)) := by
  rcases lt_trichotomy x y with h | h | h
  · rw [decide_eq_false h.not_gt, decide_eq_false h.ne, decide_eq_true h]; rfl
  · subst h; rw [decide_eq_false (lt_irrefl x), decide_eq_true rfl]; rfl
  · rw [decide_eq_true h, decide_eq_false h.ne', decide_eq_false h.not_gt]; rfl

/-- `c` when all three bits are set, zero otherwise. -/
def term (c : BitVec 32) (x y z : Bool) : BitVec 32 :=
  IntOp.muli c (BitVec.setWidth 32 (IntOp.cmpi CmpIPredicate.eq
    (IntOp.addi (IntOp.addi (IntOp.addi 0#32 (BitVec.setWidth 32 (BitVec.ofBool x))) (BitVec.setWidth 32 (BitVec.ofBool y)))
      (BitVec.setWidth 32 (BitVec.ofBool z))) 3#32))

/-- The position that three others precede; bit `ij` says that position `j` has the greater number of the two. -/
def word (b01 b02 b03 b12 b13 b23 : Bool) : BitVec 32 :=
  IntOp.addi (IntOp.addi (IntOp.addi (IntOp.addi 0#32 (term 0#32 b01 b02 b03)) (term 1#32 (!b01) b12 b13)) (term 2#32 (!b02) (!b12) b23))
    (term 3#32 (!b03) (!b13) (!b23))

theorem rows_read (a : FVec Ideal S4x4 .f32) (b : FVec Ideal S4x1 .f32) (s : Fin 4) (z : Fin 128) (r : Fin 4 → EReal)
    (hr : ∀ w, k0_pay113 a b (ix2 s w) = r w) :
    k0_pay4 (k0_pay121 (k0_pay114 a b) (k0_pay115 a b) (k0_pay116 a b) (k0_pay117 a b) (k0_pay118 a b) k0_pay119 (k0_pay120 a b)) (ix2 s z)
      = word (decide (r 0 < r 1)) (decide (r 0 < r 2)) (decide (r 0 < r 3)) (decide (r 1 < r 2)) (decide (r 1 < r 3)) (decide (r 2 < r 3)) := by
  pointwise [k0_pay4, k0_pay121, k0_pay114, k0_pay115, k0_pay116, k0_pay117, k0_pay118, k0_pay119, k0_pay120]
  simp only [hr, ge_bit]
  rfl

theorem word_last (r : Fin 4 → ℝ) (e : Fin 4) (h : Cert.Spec.IsLast r e) :
    word (decide ((r 0 : EReal) < r 1)) (decide ((r 0 : EReal) < r 2)) (decide ((r 0 : EReal) < r 3)) (decide ((r 1 : EReal) < r 2))
      (decide ((r 1 : EReal) < r 3)) (decide ((r 2 : EReal) < r 3)) = BitVec.ofNat 32 e.val := by
  have lo : ∀ k, k < e → decide ((r k : EReal) < r e) = false := fun k hk => by
    refine decide_eq_false fun hlt => ?_
    have hlt : r k < r e := by exact_mod_cast hlt
    rcases h k hk.ne with h' | ⟨h', -⟩
    · exact lt_asymm h' hlt
    · exact absurd h' hlt.ne
  have hi : ∀ k, e < k → decide ((r e : EReal) < r k) = true := fun k hk => by
    refine decide_eq_true ?_
    rcases h k hk.ne' with h' | ⟨-, h'⟩
    · exact_mod_cast h'
    · exact absurd h' hk.not_gt
  match e, lo, hi with
  | 0, lo, hi =>
    rw [hi 1 (by decide), hi 2 (by decide), hi 3 (by decide)]
    generalize decide ((r 1 : EReal) < r 2) = x
    generalize decide ((r 1 : EReal) < r 3) = y
    generalize decide ((r 2 : EReal) < r 3) = z
    clear lo hi h; revert x y z; decide
  | 1, lo, hi =>
    rw [lo 0 (by decide), hi 2 (by decide), hi 3 (by decide)]
    generalize decide ((r 0 : EReal) < r 2) = x
    generalize decide ((r 0 : EReal) < r 3) = y
    generalize decide ((r 2 : EReal) < r 3) = z
    clear lo hi h; revert x y z; decide
  | 2, lo, hi =>
    rw [lo 0 (by decide), lo 1 (by decide), hi 3 (by decide)]
    generalize decide ((r 0 : EReal) < r 1) = x
    generalize decide ((r 0 : EReal) < r 3) = y
    generalize decide ((r 1 : EReal) < r 3) = z
    clear lo hi h; revert x y z; decide
  | 3, lo, hi =>
    rw [lo 0 (by decide), lo 1 (by decide), lo 2 (by decide)]
    generalize decide ((r 0 : EReal) < r 1) = x
    generalize decide ((r 0 : EReal) < r 2) = y
    generalize decide ((r 1 : EReal) < r 2) = z
    clear lo hi h; revert x y z; decide

/-- The scale, as the kernel names it. -/
theorem named_scale :
    Named.named (F := Ideal) Cert.KernelIdeal.κ "inv_sqrt_512" (φ := .f32) 0x3D3504F3#32 = (Cert.Spec.outerScale : EReal) :=
  IdealRules.named_const.ideal_named_scalar _ _ _ _ rfl

/-- The nearness matrix, read. -/
theorem near_read (mm : Vec Ideal S4x256 .f32) (wo : Vec Ideal S256x1024 .f32) (D : Cert.Spec.Data)
    (hm : ∀ w j, mm (ix2 w j) = D.mean w j) (hw : ∀ j c, wo (ix2 j c) = D.wo j c) (s w : Fin 4) :
    k0_pay113 (k0_pay111 mm wo) (k0_pay112 mm wo) (ix2 s w) = (D.near s w : EReal) := by
  pointwise [k0_pay113, k0_pay112, k0_pay111, dot_S4x256_S256x1024_S4x1024_1_0_0_1_n_n]
  rw [named_scale]
  have hS : ∀ a, (∑ x : Fin 512, min (Ideal.ofBits .f32 1084227584#32) (max (Ideal.ofBits .f32 3231711232#32)
      (∑ y : Fin 256, mm (ix2 s y) * wo (ix2 y ⟨x.val, by omega⟩))) * min (Ideal.ofBits .f32 1084227584#32)
      (max (Ideal.ofBits .f32 3231711232#32) (∑ y : Fin 256, mm (ix2 a y) * wo (ix2 y ⟨512 + x.val, by omega⟩))))
      * (Cert.Spec.outerScale : EReal) = (D.outerScore s a : EReal) := fun a => by
    have h := D.outerScore_coe s a
    simp only [Cert.Spec.Data.outer, shift, Nat.zero_add, clip] at h
    simp only [hm, hw]
    exact h
  have hI : (FloatOps.sitofp .f32 (BitVec.setWidth 32 (IntOp.cmpi CmpIPredicate.eq (BitVec.ofNat 32 w.val) (BitVec.ofNat 32 s.val))) : Ideal .f32)
      = (if s = w then 1 else 0 : EReal) := by
    have hb : ∀ s w : Fin 4, BitVec.setWidth 32 (IntOp.cmpi CmpIPredicate.eq (BitVec.ofNat 32 w.val) (BitVec.ofNat 32 s.val))
        = if s = w then 1#32 else 0#32 := by decide
    rw [hb]
    split
    · show (((1#32 : BitVec 32).toInt : ℝ) : EReal) = 1
      simp
    · show (((0#32 : BitVec 32).toInt : ℝ) : EReal) = 0
      simp
  simp only [hS, hI, Cert.Spec.ofBits_bottom_f32, Cert.Spec.ofBits_two_f32]
  obtain ⟨m, hm'⟩ := Cert.Spec.fold_max_real (fun a => D.outerScore s a)
  rw [hm']
  exact D.near_coe s w m

/-- The word a source's row holds is the source it leaves out. -/
theorem exclRows_apply (mm : Vec Ideal S4x256 .f32) (wo : Vec Ideal S256x1024 .f32) (D : Cert.Spec.Data)
    (hm : ∀ w j, mm (ix2 w j) = D.mean w j) (hw : ∀ j c, wo (ix2 j c) = D.wo j c) (s : Fin 4) (z : Fin 128) (e : Fin 4)
    (he : Cert.Spec.IsLast (D.near s) e) :
    exclRows mm wo (ix2 s z) = BitVec.ofNat 32 e.val :=
  (rows_read _ _ s z (fun w => (D.near s w : EReal)) (near_read mm wo D hm hw s)).trans (word_last (D.near s) e he)

end Cert.KernelIdeal.Proof

end
-- ==== Proof.Block.lean ====
module

public import proofs.«01_k».proof.Proof.Heads
public import proofs.«01_k».proof.Proof.Near
public import Idealize.ShloMosaic.Lib.Pipeline.ValueKit.Tiles

/-!
A block of the result, from what the scratch buffers hold.
-/

@[expose] public section

set_option maxRecDepth 65536

noncomputable section

namespace Cert.KernelIdeal.Proof

open Idealize.ShloMosaic
open Cert.KernelIdeal.Gen
open Cert.Spec (soft clip clipR coe_clipR shift headCol)

/-- Row `p` of source `w` in a stack of four sources. -/
def rowOf (w : Fin 4) (p : Fin 256) : Fin 1024 := ⟨256 * w.val + p.val, by omega⟩

/-- Column `d` of head `h`, in rows that hold 128 columns per head. -/
def colOf (h : Fin 8) (d : Fin 128) : Fin 1024 := ⟨128 * h.val + d.val, by omega⟩

/-- The scratch buffers hold the queries, keys and values of the data. -/
structure Holds (D : Cert.Spec.Data) (q k v : Vec Ideal S1024x1024 .bf16) : Prop where
  qv : ∀ w p h (d : Fin 64), q (ix2 (rowOf w p) (colOf h ⟨d.val, by omega⟩)) = (D.vquery w p (headCol h d) : EReal) * ((1 / 8 : ℝ) : EReal)
  qm : ∀ w p h (d : Fin 64), q (ix2 (rowOf w p) (colOf h ⟨64 + d.val, by omega⟩)) = (D.mquery w p (headCol h d) : EReal) * ((1 / 8 : ℝ) : EReal)
  kv : ∀ w p h (d : Fin 64), k (ix2 (rowOf w p) (colOf h ⟨d.val, by omega⟩)) = (D.vkey w p (headCol h d) : EReal)
  km : ∀ w p h (d : Fin 64), k (ix2 (rowOf w p) (colOf h ⟨64 + d.val, by omega⟩)) = (D.mkey w p (headCol h d) : EReal)
  vv : ∀ w p h (d : Fin 64), v (ix2 (rowOf w p) (colOf h ⟨d.val, by omega⟩)) = D.value w p (headCol h d)
  v1 : ∀ w p h, v (ix2 (rowOf w p) (colOf h 64)) = 1

variable {D : Cert.Spec.Data} {q k v : Vec Ideal S1024x1024 .bf16} (H : Holds D q k v)

include H in
/-- The product of a stored query with a stored key is a score. -/
theorem Holds.score (s w : Fin 4) (h : Fin 8) (p x : Fin 256) :
    ∑ d : Fin 128, q (ix2 (rowOf s p) (colOf h d)) * k (ix2 (rowOf w x) (colOf h d)) = (D.score s h p w x : EReal) := by
  have e := Fin.sum_univ_add (a := 64) (b := 64) (fun d : Fin 128 => q (ix2 (rowOf s p) (colOf h d)) * k (ix2 (rowOf w x) (colOf h d)))
  refine e.trans ?_
  have e1 : ∀ d : Fin 64, q (ix2 (rowOf s p) (colOf h (Fin.castAdd 64 d))) * k (ix2 (rowOf w x) (colOf h (Fin.castAdd 64 d)))
      = ((D.vquery s p (headCol h d) * D.vkey w x (headCol h d) * (1 / 8) : ℝ) : EReal) := fun d => by
    refine (congrArg₂ (· * ·) (H.qv s p h d) (H.kv w x h d)).trans ?_
    rw [← EReal.coe_mul, ← EReal.coe_mul]
    congr 1; ring
  have e2 : ∀ d : Fin 64, q (ix2 (rowOf s p) (colOf h (Fin.natAdd 64 d))) * k (ix2 (rowOf w x) (colOf h (Fin.natAdd 64 d)))
      = ((D.mquery s p (headCol h d) * D.mkey w x (headCol h d) * (1 / 8) : ℝ) : EReal) := fun d => by
    refine (congrArg₂ (· * ·) (H.qm s p h d) (H.km w x h d)).trans ?_
    rw [← EReal.coe_mul, ← EReal.coe_mul]
    congr 1; ring
  simp only [e1, e2]
  rw [← Cert.Spec.coe_sum, ← Cert.Spec.coe_sum, ← EReal.coe_add, Cert.Spec.Data.score, Finset.sum_mul, Finset.sum_mul]

/-- A load of a head's columns of 256 rows. -/
theorem ld_at (X : Vec Ideal S1024x1024 .bf16) (off : Fin 2 → ℕ) (hoff : ∀ a, off a + S256x128.size a ≤ S1024x1024.size a)
    (w : Fin 4) (h : Fin 8) (h0 : off 0 = 256 * w.val) (h1 : off 1 = 128 * h.val) (p : Fin 256) (d : Fin 128) :
    View.ld X (Rect.unit (s := S1024x1024) off S256x128.size hoff) (ix2 p d) = X (ix2 (rowOf w p) (colOf h d)) :=
  View.ld_unit_apply_of X off S256x128.size hoff (ix2 p d) (ix2 (rowOf w p) (colOf h d)) fun a => by
    match a with
    | ⟨0, _⟩ => exact (congrArg (· + p.val) h0).symm
    | ⟨1, _⟩ => exact (congrArg (· + d.val) h1).symm

include H in
/-- One head of a block. -/
theorem headAt_apply (oq : Fin 2 → ℕ) (hq : ∀ a, oq a + S256x128.size a ≤ S1024x1024.size a)
    (ok : Fin 3 → Fin 2 → ℕ) (hk : ∀ r a, ok r a + S256x128.size a ≤ S1024x1024.size a) (s e : Fin 4) (h : Fin 8)
    (q0 : oq 0 = 256 * s.val) (q1 : oq 1 = 128 * h.val) (k0 : ∀ r, ok r 0 = 256 * (e.succAbove r).val) (k1 : ∀ r, ok r 1 = 128 * h.val)
    (p : Fin 256) (d : Fin 64) :
    headAt oq hq ok hk q k v (ix2 p d) = D.head s e h p d := by
  unfold headAt
  refine (headOut_soft _ (fun r => View.ld k (Rect.unit (s := S1024x1024) (ok r) S256x128.size (hk r)))
    (fun r => View.ld v (Rect.unit (s := S1024x1024) (ok r) S256x128.size (hk r))) p d
    (fun r => D.score s h p (e.succAbove r.1) r.2) (fun r x => ?_) (fun r x => ?_)).trans ?_
  · refine Eq.trans (Finset.sum_congr rfl fun d _ => ?_) (H.score s (e.succAbove r) h p x)
    rw [ld_at q oq hq s h q0 q1, ld_at k (ok r) (hk r) (e.succAbove r) h (k0 r) (k1 r)]
  · exact (ld_at v (ok r) (hk r) (e.succAbove r) h (k0 r) (k1 r) x 64).trans (H.v1 _ _ _)
  · unfold Cert.Spec.Data.head
    congr 1
    funext r
    exact (ld_at v (ok r.1) (hk r.1) (e.succAbove r.1) h (k0 r.1) (k1 r.1) r.2 ⟨d.val, by omega⟩).trans (H.vv _ _ _ _)

/-- The heads side by side, times the output weights, plus the bias. -/
theorem outBlock_apply (o : Fin 8 → FVec Ideal S256x64 .bf16) (wout : Vec Ideal S512x512 .bf16) (bout : Vec Ideal S1x512 .f32)
    (p : Fin 256) (n : Fin 512) :
    outBlock (o 0) (o 1) (o 2) (o 3) (o 4) (o 5) (o 6) (o 7) wout bout (ix2 p n)
      = ∑ c : Fin 512, o ⟨c.val / 64, by omega⟩ (ix2 p ⟨c.val % 64, by omega⟩) * wout (ix2 c n) + bout (ix2 0 n) := by
  have hc : ∀ c : Fin 512, concatenate S256x512 1 [⟨S256x64, o 0⟩, ⟨S256x64, o 1⟩, ⟨S256x64, o 2⟩, ⟨S256x64, o 3⟩, ⟨S256x64, o 4⟩,
      ⟨S256x64, o 5⟩, ⟨S256x64, o 6⟩, ⟨S256x64, o 7⟩]
      concatenates_S256x64_S256x64_S256x64_S256x64_S256x64_S256x64_S256x64_S256x64_S256x512_d1 (ix2 p c)
      = o ⟨c.val / 64, by omega⟩ (ix2 p ⟨c.val % 64, by omega⟩) := fun c => by
    refine (Cert.Spec.eight_apply (o 0) (o 1) (o 2) (o 3) (o 4) (o 5) (o 6) (o 7)
      concatenates_S256x64_S256x64_S256x64_S256x64_S256x64_S256x64_S256x64_S256x64_S256x512_d1 p ⟨c.val / 64, by omega⟩
      ⟨c.val % 64, by omega⟩ c (by show 64 * (c.val / 64) + c.val % 64 = c.val; omega)).trans ?_
    have : ∀ k : Fin 8, (![o 0, o 1, o 2, o 3, o 4, o 5, o 6, o 7] : Fin 8 → FVec Ideal S256x64 .bf16) k = o k := fun k => by
      fin_cases k <;> rfl
    exact congrFun (this _) _
  unfold outBlock
  generalize concatenate S256x512 1 [⟨S256x64, o 0⟩, ⟨S256x64, o 1⟩, ⟨S256x64, o 2⟩, ⟨S256x64, o 3⟩, ⟨S256x64, o 4⟩,
      ⟨S256x64, o 5⟩, ⟨S256x64, o 6⟩, ⟨S256x64, o 7⟩]
      concatenates_S256x64_S256x64_S256x64_S256x64_S256x64_S256x64_S256x64_S256x64_S256x512_d1 = X at *
  simp only [← hc]
  pointwise [k0_pay5, dot_S256x512_S512x512_S256x512_1_0_0_1_n_n]

/-! ## The offsets -/

/-- The source whose block a point writes. -/
def srcOf (t : Fin cfg0.N) : Fin 4 := ⟨(t.val % 5 - 1) % 4, Nat.mod_lt _ (by decide)⟩

theorem off_queries : ∀ t : Fin cfg0.N, t.val % 5 ≠ 0 →
    (k0_off2 (grid0.coords t) 0 = 256 * (srcOf t).val ∧ k0_off2 (grid0.coords t) 1 = 128 * 0)
    ∧ (k0_off4 (grid0.coords t) 0 = 256 * (srcOf t).val ∧ k0_off4 (grid0.coords t) 1 = 128 * 1)
    ∧ (k0_off6 (grid0.coords t) 0 = 256 * (srcOf t).val ∧ k0_off6 (grid0.coords t) 1 = 128 * 2)
    ∧ (k0_off8 (grid0.coords t) 0 = 256 * (srcOf t).val ∧ k0_off8 (grid0.coords t) 1 = 128 * 3)
    ∧ (k0_off10 (grid0.coords t) 0 = 256 * (srcOf t).val ∧ k0_off10 (grid0.coords t) 1 = 128 * 4)
    ∧ (k0_off12 (grid0.coords t) 0 = 256 * (srcOf t).val ∧ k0_off12 (grid0.coords t) 1 = 128 * 5)
    ∧ (k0_off14 (grid0.coords t) 0 = 256 * (srcOf t).val ∧ k0_off14 (grid0.coords t) 1 = 128 * 6)
    ∧ (k0_off16 (grid0.coords t) 0 = 256 * (srcOf t).val ∧ k0_off16 (grid0.coords t) 1 = 128 * 7) := by
  decide +kernel

theorem off_keys : ∀ (e : Fin 4) (r : Fin 3),
    (k0_off3 (BitVec.ofNat 32 e.val) (k0_off3_at r).1 (k0_off3_at r).2 0 = 256 * (e.succAbove r).val
      ∧ k0_off3 (BitVec.ofNat 32 e.val) (k0_off3_at r).1 (k0_off3_at r).2 1 = 128 * 0)
    ∧ (k0_off5 (BitVec.ofNat 32 e.val) (k0_off5_at r).1 (k0_off5_at r).2 0 = 256 * (e.succAbove r).val
      ∧ k0_off5 (BitVec.ofNat 32 e.val) (k0_off5_at r).1 (k0_off5_at r).2 1 = 128 * 1)
    ∧ (k0_off7 (BitVec.ofNat 32 e.val) (k0_off7_at r).1 (k0_off7_at r).2 0 = 256 * (e.succAbove r).val
      ∧ k0_off7 (BitVec.ofNat 32 e.val) (k0_off7_at r).1 (k0_off7_at r).2 1 = 128 * 2)
    ∧ (k0_off9 (BitVec.ofNat 32 e.val) (k0_off9_at r).1 (k0_off9_at r).2 0 = 256 * (e.succAbove r).val
      ∧ k0_off9 (BitVec.ofNat 32 e.val) (k0_off9_at r).1 (k0_off9_at r).2 1 = 128 * 3)
    ∧ (k0_off11 (BitVec.ofNat 32 e.val) (k0_off11_at r).1 (k0_off11_at r).2 0 = 256 * (e.succAbove r).val
      ∧ k0_off11 (BitVec.ofNat 32 e.val) (k0_off11_at r).1 (k0_off11_at r).2 1 = 128 * 4)
    ∧ (k0_off13 (BitVec.ofNat 32 e.val) (k0_off13_at r).1 (k0_off13_at r).2 0 = 256 * (e.succAbove r).val
      ∧ k0_off13 (BitVec.ofNat 32 e.val) (k0_off13_at r).1 (k0_off13_at r).2 1 = 128 * 5)
    ∧ (k0_off15 (BitVec.ofNat 32 e.val) (k0_off15_at r).1 (k0_off15_at r).2 0 = 256 * (e.succAbove r).val
      ∧ k0_off15 (BitVec.ofNat 32 e.val) (k0_off15_at r).1 (k0_off15_at r).2 1 = 128 * 6)
    ∧ (k0_off17 (BitVec.ofNat 32 e.val) (k0_off17_at r).1 (k0_off17_at r).2 0 = 256 * (e.succAbove r).val
      ∧ k0_off17 (BitVec.ofNat 32 e.val) (k0_off17_at r).1 (k0_off17_at r).2 1 = 128 * 7) := by
  decide +kernel

include H in
/-- A block of the result, when the source left out is `e`. -/
theorem attBlock_apply (t : Fin cfg0.N) (hB : Attends (grid0.coords t)) (e : Fin 4) (wout : Vec Ideal S512x512 .bf16)
    (bout : Vec Ideal S1x512 .f32) (hw : ∀ c n, wout (ix2 c n) = D.wt c n) (hb : ∀ n, bout (ix2 0 n) = D.bo n) (p : Fin 256) (n : Fin 512) :
    attBlock (grid0.coords t) hB (BitVec.ofNat 32 e.val) q k v wout bout (ix2 p n) = D.out (srcOf t) e p n := by
  obtain ⟨a0, a1, a2, a3, a4, a5, a6, a7⟩ := off_queries t ((attends_iff t).mp hB)
  have b := off_keys e
  unfold attBlock
  have key : ∀ o0 o1 o2 o3 o4 o5 o6 o7 : FVec Ideal S256x64 .bf16,
      (∀ p d, o0 (ix2 p d) = D.head (srcOf t) e 0 p d) →
      (∀ p d, o1 (ix2 p d) = D.head (srcOf t) e 1 p d) →
      (∀ p d, o2 (ix2 p d) = D.head (srcOf t) e 2 p d) →
      (∀ p d, o3 (ix2 p d) = D.head (srcOf t) e 3 p d) →
      (∀ p d, o4 (ix2 p d) = D.head (srcOf t) e 4 p d) →
      (∀ p d, o5 (ix2 p d) = D.head (srcOf t) e 5 p d) →
      (∀ p d, o6 (ix2 p d) = D.head (srcOf t) e 6 p d) →
      (∀ p d, o7 (ix2 p d) = D.head (srcOf t) e 7 p d) →
      outBlock o0 o1 o2 o3 o4 o5 o6 o7 wout bout (ix2 p n) = D.out (srcOf t) e p n := by
    intro o0 o1 o2 o3 o4 o5 o6 o7 h0 h1 h2 h3 h4 h5 h6 h7
    have ho : ∀ h p d, (![o0, o1, o2, o3, o4, o5, o6, o7] : Fin 8 → FVec Ideal S256x64 .bf16) h (ix2 p d) = D.head (srcOf t) e h p d :=
      fun h => match h with
        | 0 => h0
        | 1 => h1
        | 2 => h2
        | 3 => h3
        | 4 => h4
        | 5 => h5
        | 6 => h6
        | 7 => h7
    refine (outBlock_apply ![o0, o1, o2, o3, o4, o5, o6, o7] wout bout p n).trans ?_
    rw [hb, Cert.Spec.Data.out]
    simp only [ho, hw]
  exact key _ _ _ _ _ _ _ _
    (headAt_apply H _ (k0_off2_inb _ hB) _ (k0_off3_inb _ _ (chk_all (grid0.coords t) _) hB) (srcOf t) e 0
      a0.1 a0.2 (fun r => (b r).1.1) (fun r => (b r).1.2))
    (headAt_apply H _ (k0_off4_inb _ hB) _ (k0_off5_inb _ _ (chk_all (grid0.coords t) _) hB) (srcOf t) e 1
      a1.1 a1.2 (fun r => (b r).2.1.1) (fun r => (b r).2.1.2))
    (headAt_apply H _ (k0_off6_inb _ hB) _ (k0_off7_inb _ _ (chk_all (grid0.coords t) _) hB) (srcOf t) e 2
      a2.1 a2.2 (fun r => (b r).2.2.1.1) (fun r => (b r).2.2.1.2))
    (headAt_apply H _ (k0_off8_inb _ hB) _ (k0_off9_inb _ _ (chk_all (grid0.coords t) _) hB) (srcOf t) e 3
      a3.1 a3.2 (fun r => (b r).2.2.2.1.1) (fun r => (b r).2.2.2.1.2))
    (headAt_apply H _ (k0_off10_inb _ hB) _ (k0_off11_inb _ _ (chk_all (grid0.coords t) _) hB) (srcOf t) e 4
      a4.1 a4.2 (fun r => (b r).2.2.2.2.1.1) (fun r => (b r).2.2.2.2.1.2))
    (headAt_apply H _ (k0_off12_inb _ hB) _ (k0_off13_inb _ _ (chk_all (grid0.coords t) _) hB) (srcOf t) e 5
      a5.1 a5.2 (fun r => (b r).2.2.2.2.2.1.1) (fun r => (b r).2.2.2.2.2.1.2))
    (headAt_apply H _ (k0_off14_inb _ hB) _ (k0_off15_inb _ _ (chk_all (grid0.coords t) _) hB) (srcOf t) e 6
      a6.1 a6.2 (fun r => (b r).2.2.2.2.2.2.1.1) (fun r => (b r).2.2.2.2.2.2.1.2))
    (headAt_apply H _ (k0_off16_inb _ hB) _ (k0_off17_inb _ _ (chk_all (grid0.coords t) _) hB) (srcOf t) e 7
      a7.1 a7.2 (fun r => (b r).2.2.2.2.2.2.2.1) (fun r => (b r).2.2.2.2.2.2.2.2))

end Cert.KernelIdeal.Proof

end
-- ==== Proof.Stacks.lean ====
module

public import proofs.«01_k».proof.Proof.Block
public import proofs.«01_k».proof.Proof.Region

/-!
What the scratch buffers hold after a preparing point, in terms of the data of the batch row.
-/

@[expose] public section

set_option maxRecDepth 65536

noncomputable section

namespace Cert.KernelIdeal.Proof

open Idealize.ShloMosaic
open Cert.KernelIdeal.Gen
open Cert.Spec (soft clip clipR coe_clipR shift headCol)

/-- The values and the metadata of the four sources. -/
def valuesOf (B : Blocks Ideal) : Fin 4 → Vec Ideal S1x256x512 .f32 := ![B.x0, B.x1, B.x2, B.x3]
def metaOf (B : Blocks Ideal) : Fin 4 → Vec Ideal S1x256x256 .f32 := ![B.m0, B.m1, B.m2, B.m3]

theorem tile_at (r : Fin 4 → FVec Ideal S256x1024 .bf16) (j w : Fin 4) (p : Fin 256) (c : Fin 1024) :
    View.TileAt (Val := Elt Ideal) (S := S1024x1024) (e := .bf16) (ix2 (rowOf w p) c) ![256 * j.val, 0] ![256, 1024] (r j) (r w (ix2 p c)) := by
  intro x hx
  have h0 : 256 * w.val + p.val = 256 * j.val + (x 0).val := hx 0
  have h1 : c.val = 0 + (x 1).val := hx 1
  have hx0 : (x 0).val < 256 := (x 0).isLt
  have hjw : j = w := Fin.ext (by omega)
  subst hjw
  have hxe : x = ix2 p c := funext fun a => match a with
    | ⟨0, _⟩ => Fin.ext (show (x 0).val = p.val by omega)
    | ⟨1, _⟩ => Fin.ext (show (x 1).val = c.val by omega)
  rw [hxe]

/-- The stack read at a row of source `w`. -/
theorem stack_apply (r : Fin 4 → FVec Ideal S256x1024 .bf16) (w : Fin 4) (p : Fin 256) (c : Fin 1024) :
    View.canon (stack (r 0) (r 1) (r 2) (r 3)) (ix2 (rowOf w p) c) = r w (ix2 p c) := by
  refine View.canon_eq_of_allAt _ _ _ ?_ ?_
  · have hmem : ∀ (off : Fin 2 → ℕ) (hi : ∀ a : Fin S1024x1024.rank, off a + (![256, 1024] : Fin 2 → ℕ) a ≤ S1024x1024.size a), off 0 = 256 * w.val → off 1 = 0 →
        (ix2 (rowOf w p) c : S1024x1024.Idx) ∈ (Rect.unit (s := S1024x1024) off ![256, 1024] hi).set := by
      intro off hi h0 h1
      refine (congrArg (· ∈ (Rect.unit (s := S1024x1024) off ![256, 1024] hi).set) (funext fun a => Fin.ext ?_)).mp
        ((Rect.unit (s := S1024x1024) off ![256, 1024] hi).idx_mem (ix2 p c))
      refine (Rect.idx_unit_val off ![256, 1024] hi (ix2 p c) a).trans ?_
      match a with
      | ⟨0, _⟩ => exact congrArg (· + p.val) h0
      | ⟨1, _⟩ => exact (congrArg (· + c.val) h1).trans (Nat.zero_add _)
    match w with
    | 0 => unfold stack; refine ⟨_, List.mem_cons_of_mem _ (List.mem_cons_of_mem _ (List.mem_cons_of_mem _ List.mem_cons_self)), ?_⟩; exact hmem ![0, 0] (by decide) rfl rfl
    | 1 => unfold stack; refine ⟨_, List.mem_cons_of_mem _ (List.mem_cons_of_mem _ List.mem_cons_self), ?_⟩; exact hmem ![256, 0] (by decide) rfl rfl
    | 2 => unfold stack; refine ⟨_, List.mem_cons_of_mem _ List.mem_cons_self, ?_⟩; exact hmem ![512, 0] (by decide) rfl rfl
    | 3 => unfold stack; refine ⟨_, List.mem_cons_self, ?_⟩; exact hmem ![768, 0] (by decide) rfl rfl
  · unfold stack
    exact View.allAt_cons_unit _ _ _ _ _ (tile_at r 3 w p c) (View.allAt_cons_unit _ _ _ _ _ (tile_at r 2 w p c)
      (View.allAt_cons_unit _ _ _ _ _ (tile_at r 1 w p c) (View.allAt_cons_unit _ _ _ _ _ (tile_at r 0 w p c) (View.allAt_nil _ _))))

variable (B : Blocks Ideal) (W : Narrow Ideal) (D : Cert.Spec.Data)
  (hx : ∀ w p d, valuesOf B w (ix3 0 p d) = D.x w p d) (hm : ∀ w p d, metaOf B w (ix3 0 p d) = D.m w p d)
  (hv : ∀ d c, W.wqkv (ix2 d c) = D.wv d c) (hi : ∀ d c, W.winner (ix2 d c) = D.wi d c)

theorem qStack_apply (w : Fin 4) (p : Fin 256) (c : Fin 1024) :
    View.canon (qStack B W) (ix2 (rowOf w p) c) = qRows (valuesOf B w) (metaOf B w) W (ix2 p c) :=
  stack_apply (fun w => qRows (valuesOf B w) (metaOf B w) W) w p c
theorem kStack_apply (w : Fin 4) (p : Fin 256) (c : Fin 1024) :
    View.canon (kStack B W) (ix2 (rowOf w p) c) = kRows (valuesOf B w) (metaOf B w) W (ix2 p c) :=
  stack_apply (fun w => kRows (valuesOf B w) (metaOf B w) W) w p c
theorem vStack_apply (w : Fin 4) (p : Fin 256) (c : Fin 1024) :
    View.canon (vStack B W) (ix2 (rowOf w p) c) = vRows (valuesOf B w) W (ix2 p c) :=
  stack_apply (fun w => vRows (valuesOf B w) W) w p c

include hx hv in
theorem values_apply (w : Fin 4) (p : Fin 256) (c : Fin 1536) : k0_pay8 (valuesOf B w) W.wqkv (ix2 p c) = D.pv w p c := by
  rw [pay8_apply, Cert.Spec.Data.pv]; simp only [hx, hv]

include hm hi in
theorem meta_apply (w : Fin 4) (p : Fin 256) (c : Fin 1024) : k0_pay10 (metaOf B w) W.winner (ix2 p c) = D.pm w p c := by
  rw [pay10_apply, Cert.Spec.Data.pm]; simp only [hm, hi]

include hx hm hv hi in
/-- The scratch buffers hold the queries, keys and values of the data. -/
theorem holds_stacks : Holds D (View.canon (qStack B W)) (View.canon (kStack B W)) (View.canon (vStack B W)) where
  qv w p h d := by
    rw [qStack_apply]
    refine (pay23_low _ _ _ p h d).trans ?_
    rw [pay11_apply, values_apply B W D hx hv, Cert.Spec.ofBits_eighth_bf16, Cert.Spec.Data.vquery, coe_clipR]
  qm w p h d := by
    rw [qStack_apply]
    refine (pay23_high _ _ _ p h d).trans ?_
    rw [pay14_apply, meta_apply B W D hm hi, Cert.Spec.Data.mquery, coe_clipR]
    exact congrArg (_ * ·) Cert.Spec.ofBits_eighth_bf16
  kv w p h d := by
    rw [kStack_apply, kRows_eq]
    refine (pay24_low _ _ p h d).trans ?_
    rw [pay12_apply, values_apply B W D hx hv, Cert.Spec.Data.vkey, coe_clipR]
  km w p h d := by
    rw [kStack_apply, kRows_eq]
    refine (pay24_high _ _ p h d).trans ?_
    rw [meta_apply B W D hm hi, Cert.Spec.Data.mkey, coe_clipR]
  vv w p h d := by
    rw [vStack_apply]
    refine (vRows_value _ _ p h d).trans ?_
    rw [pay13_apply, values_apply B W D hx hv, Cert.Spec.Data.value]
  v1 w p h := by
    rw [vStack_apply]
    exact vRows_one _ _ p h

/-! ## The means and the sources left out -/

/-- Source `w` among eight rows. -/
def eightRow (w : Fin 4) : Fin 8 := ⟨w.val, by omega⟩

theorem mean_tile (r : Fin 4 → FVec Ideal S1x256 .f32) (j w : Fin 4) (c : Fin 256) :
    View.TileAt (Val := Elt Ideal) (S := S8x256) (e := .f32) (ix2 (eightRow w) c) ![j.val, 0] S1x256.size (r j) (r w (ix2 0 c)) := by
  intro x hx
  have h0 : w.val = j.val + (x 0).val := hx 0
  have h1 : c.val = 0 + (x 1).val := hx 1
  have hx0 : (x 0).val < 1 := (x 0).isLt
  have hjw : j = w := Fin.ext (by omega)
  subst hjw
  have hxe : x = ix2 0 c := funext fun a => match a with
    | ⟨0, _⟩ => Fin.ext (show (x 0).val = 0 by omega)
    | ⟨1, _⟩ => Fin.ext (show (x 1).val = c.val by omega)
  rw [hxe]

theorem meanStack_apply (m : Fin 4 → Vec Ideal S1x256x256 .f32) (w : Fin 4) (c : Fin 256) :
    View.canon (meanStack (m 0) (m 1) (m 2) (m 3)) (ix2 (eightRow w) c) = meanRow (m w) (ix2 0 c) := by
  refine View.canon_eq_of_allAt _ _ _ ?_ ?_
  · have hmem : ∀ (off : Fin 2 → ℕ) (hi : ∀ a, off a + S1x256.size a ≤ S8x256.size a), off 0 = w.val → off 1 = 0 →
        (ix2 (eightRow w) c : S8x256.Idx) ∈ (Rect.unit (s := S8x256) off S1x256.size hi).set := by
      intro off hi h0 h1
      refine (congrArg (· ∈ (Rect.unit (s := S8x256) off S1x256.size hi).set) (funext fun a => Fin.ext ?_)).mp
        ((Rect.unit (s := S8x256) off S1x256.size hi).idx_mem (ix2 0 c))
      refine (Rect.idx_unit_val (s := S8x256) off S1x256.size hi (ix2 0 c) a).trans ?_
      match a with
      | ⟨0, _⟩ => exact h0
      | ⟨1, _⟩ => exact (congrArg (· + c.val) h1).trans (Nat.zero_add _)
    match w with
    | 0 => unfold meanStack; refine ⟨_, List.mem_cons_of_mem _ (List.mem_cons_of_mem _ (List.mem_cons_of_mem _ List.mem_cons_self)), ?_⟩; exact hmem ![0, 0] (by decide) rfl rfl
    | 1 => unfold meanStack; refine ⟨_, List.mem_cons_of_mem _ (List.mem_cons_of_mem _ List.mem_cons_self), ?_⟩; exact hmem ![1, 0] (by decide) rfl rfl
    | 2 => unfold meanStack; refine ⟨_, List.mem_cons_of_mem _ List.mem_cons_self, ?_⟩; exact hmem ![2, 0] (by decide) rfl rfl
    | 3 => unfold meanStack; refine ⟨_, List.mem_cons_self, ?_⟩; exact hmem ![3, 0] (by decide) rfl rfl
  · unfold meanStack
    exact View.allAt_cons_unit _ _ _ _ _ (mean_tile (fun w => meanRow (m w)) 3 w c) (View.allAt_cons_unit _ _ _ _ _ (mean_tile (fun w => meanRow (m w)) 2 w c)
      (View.allAt_cons_unit _ _ _ _ _ (mean_tile (fun w => meanRow (m w)) 1 w c) (View.allAt_cons_unit _ _ _ _ _ (mean_tile (fun w => meanRow (m w)) 0 w c) (View.allAt_nil _ _))))

include hm in
theorem means_apply (w : Fin 4) (j : Fin 256) : means B (ix2 w j) = D.mean w j := by
  unfold means
  refine (View.ld_unit_apply_of (View.canon (meanStack B.m0 B.m1 B.m2 B.m3)) ![0, 0] S4x256.size inb_S8x256_S4x256_0_0 (ix2 w j)
    (ix2 (eightRow w) j) fun a => ?_).trans ?_
  · match a with
    | ⟨0, _⟩ => exact (Nat.zero_add _).symm
    | ⟨1, _⟩ => exact (Nat.zero_add _).symm
  · refine (meanStack_apply (metaOf B) w j).trans ?_
    rw [meanRow_apply, Cert.Spec.Data.mean]
    simp only [hm]

theorem off_word : ∀ t : Fin cfg0.N, t.val % 5 ≠ 0 → k0_off1 (grid0.coords t) 0 = (srcOf t).val ∧ k0_off1 (grid0.coords t) 1 = 0 := by
  decide +kernel

include hm in
/-- The word an attending point reads is the source left out. -/
theorem exclWord_apply (ho : ∀ d c, B.wouter (ix2 d c) = D.wo d c) (t : Fin cfg0.N) (h : Attends (grid0.coords t)) (e : Fin 4)
    (he : Cert.Spec.IsLast (D.near (srcOf t)) e) :
    exclWord (grid0.coords t) h (exclStored B) = BitVec.ofNat 32 e.val := by
  obtain ⟨h0, h1⟩ := off_word t ((attends_iff t).mp h)
  unfold exclWord extractAt exclStored
  refine (View.ld_unit_apply_of (Val := Elt Ideal) (S := S8x128) (e := .i32) _ (k0_off1 (grid0.coords t)) S1x1.size (k0_off1_inb _ h) _
    ((Rect.unit (s := S8x128) ![0, 0] ![4, 128] inb_S8x128_S4x128_0_0).emb (ix2 (srcOf t) 0)) fun a => ?_).trans ?_
  · match a with
    | ⟨0, _⟩ =>
      exact (Rect.idx_unit_val (s := S8x128) ![0, 0] ![4, 128] inb_S8x128_S4x128_0_0 (ix2 (srcOf t) 0) 0).trans
        ((Nat.zero_add _).trans (congrArg (· + 0) h0.symm : (srcOf t).val + 0 = k0_off1 (grid0.coords t) 0 + 0))
    | ⟨1, _⟩ =>
      exact (Rect.idx_unit_val (s := S8x128) ![0, 0] ![4, 128] inb_S8x128_S4x128_0_0 (ix2 (srcOf t) 0) 1).trans
        ((Nat.zero_add _).trans (congrArg (· + 0) h1.symm : 0 + 0 = k0_off1 (grid0.coords t) 1 + 0))
  · refine (View.canon_cons_emb _ _ _ _).trans ?_
    exact exclRows_apply (means B) B.wouter D (means_apply B D hm) ho (srcOf t) 0 e he

end Cert.KernelIdeal.Proof

end
-- ==== Proof.Arrays.lean ====
module

public import proofs.«01_k».proof.Proof.Spec

/-!
The result as one function of the thirteen argument arrays: what both programs compute.
-/

@[expose] public section

noncomputable section

namespace Cert.Spec

open Idealize.ShloMosaic

/-- The argument arrays, as numbers. -/
structure Arrays where
  x : Fin 4 → (⟨3, ![2, 256, 512]⟩ : Shape).Idx → EReal
  m : Fin 4 → (⟨3, ![2, 256, 256]⟩ : Shape).Idx → EReal
  wo : (⟨2, ![256, 1024]⟩ : Shape).Idx → EReal
  wv : (⟨2, ![512, 1536]⟩ : Shape).Idx → EReal
  wi : (⟨2, ![256, 1024]⟩ : Shape).Idx → EReal
  wt : (⟨2, ![512, 512]⟩ : Shape).Idx → EReal
  bo : (⟨1, ![512]⟩ : Shape).Idx → EReal

/-- The data of batch row `b`. -/
def Arrays.data (A : Arrays) (b : Fin 2) : Data where
  x w p d := A.x w (ix3 b p d)
  m w p d := A.m w (ix3 b p d)
  wv d c := A.wv (ix2 d c)
  wi d c := A.wi (ix2 d c)
  wo d c := A.wo (ix2 d c)
  wt d c := A.wt (ix2 d c)
  bo n := A.bo (ix1 n)

/-- The source left out: the last in the order of the row of scores. -/
def lastOf (r : Fin 4 → ℝ) : Fin 4 := (exists_isLast r).choose

theorem lastOf_isLast (r : Fin 4 → ℝ) : IsLast r (lastOf r) := (exists_isLast r).choose_spec

/-- The result at source `s` of batch row `b`, row `p`, column `n`. -/
def Arrays.out (A : Arrays) (b : Fin 2) (s : Fin 4) (p : Fin 256) (n : Fin 512) : EReal :=
  (A.data b).out s (lastOf ((A.data b).near s)) p n

/-- The whole result: row `1024·b + 256·s + p`. -/
def Arrays.result (A : Arrays) : (⟨2, ![2048, 512]⟩ : Shape).Idx → EReal := fun i =>
  A.out ⟨(i 0).val / 1024, by have : (i 0).val < 2048 := (i 0).isLt; omega⟩ ⟨(i 0).val / 256 % 4, by omega⟩
    ⟨(i 0).val % 256, by omega⟩ (i 1)

theorem Arrays.result_apply (A : Arrays) (i : (⟨2, ![2048, 512]⟩ : Shape).Idx) (b : Fin 2) (s : Fin 4) (p : Fin 256) (n : Fin 512)
    (h0 : (i 0).val = 1024 * b.val + 256 * s.val + p.val) (h1 : (i 1).val = n.val) : A.result i = A.out b s p n := by
  unfold Arrays.result
  congr 1
  · exact Fin.ext (show (i 0).val / 1024 = b.val by omega)
  · exact Fin.ext (show (i 0).val / 256 % 4 = s.val by omega)
  · exact Fin.ext (show (i 0).val % 256 = p.val by omega)
  · exact Fin.ext h1

end Cert.Spec

end
-- ==== Proof.Final.lean ====
module

public import proofs.«01_k».proof.Proof.Stacks
public import proofs.«01_k».proof.Proof.Arrays
public import Idealize.ShloMosaic.Lib.Pipeline.ValueKit
public import Idealize.ShloMosaic.Lib.Claim
public import Idealize.ShloMosaic.Lib.Pointwise

/-!
The kernel's result as a function of its argument arrays.
-/

@[expose] public section

set_option maxRecDepth 65536

noncomputable section

namespace Cert.KernelIdeal.Proof

open Idealize.ShloMosaic Idealize.ShloMosaic.TcCoe Idealize.ShloMosaic.Tactic
open Idealize.SL Idealize.SL.Sem
open Idealize.ShloMosaic.Pipeline (Dat Cfg Window)
open Cert.KernelIdeal.Gen

variable (m : (ℓ : Loc nD τ sig) → Buf (Elt Ideal) ℓ) (c : Dev nD)

/-- The argument arrays of core `c`. -/
def arraysOf : Cert.Spec.Arrays where
  x := ![m ((c.tc : Thread nD τ).loc main_arg0), m ((c.tc : Thread nD τ).loc main_arg1), m ((c.tc : Thread nD τ).loc main_arg2),
    m ((c.tc : Thread nD τ).loc main_arg3)]
  m := ![m ((c.tc : Thread nD τ).loc main_arg4), m ((c.tc : Thread nD τ).loc main_arg5), m ((c.tc : Thread nD τ).loc main_arg6),
    m ((c.tc : Thread nD τ).loc main_arg7)]
  wo := m ((c.tc : Thread nD τ).loc main_arg8)
  wv := m ((c.tc : Thread nD τ).loc main_arg9)
  wi := m ((c.tc : Thread nD τ).loc main_arg10)
  wt := m ((c.tc : Thread nD τ).loc main_arg11)
  bo := m ((c.tc : Thread nD τ).loc main_arg12)

/-- The batch row of a point. -/
def batchOf (t : Fin cfg0.N) : Fin 2 := ⟨t.val / 5 % 2, Nat.mod_lt _ (by decide)⟩

theorem at0 : ∀ t : Fin cfg0.N, win0_0.index t = ![(batchOf t).val, 0, 0] := by decide +kernel
theorem at1 : ∀ t : Fin cfg0.N, win0_1.index t = ![(batchOf t).val, 0, 0] := by decide +kernel
theorem at2 : ∀ t : Fin cfg0.N, win0_2.index t = ![(batchOf t).val, 0, 0] := by decide +kernel
theorem at3 : ∀ t : Fin cfg0.N, win0_3.index t = ![(batchOf t).val, 0, 0] := by decide +kernel
theorem at4 : ∀ t : Fin cfg0.N, win0_4.index t = ![(batchOf t).val, 0, 0] := by decide +kernel
theorem at5 : ∀ t : Fin cfg0.N, win0_5.index t = ![(batchOf t).val, 0, 0] := by decide +kernel
theorem at6 : ∀ t : Fin cfg0.N, win0_6.index t = ![(batchOf t).val, 0, 0] := by decide +kernel
theorem at7 : ∀ t : Fin cfg0.N, win0_7.index t = ![(batchOf t).val, 0, 0] := by decide +kernel
theorem at8 : ∀ t : Fin cfg0.N, win0_8.index t = ![0, 0] := by decide +kernel
theorem at9 : ∀ t : Fin cfg0.N, win0_9.index t = ![0, 0] := by decide +kernel
theorem at10 : ∀ t : Fin cfg0.N, win0_10.index t = ![0, 0] := by decide +kernel
theorem at11 : ∀ t : Fin cfg0.N, win0_11.index t = ![0, 0] := by decide +kernel
theorem at12 : ∀ t : Fin cfg0.N, win0_12.index t = ![0, 0] := by decide +kernel

theorem x0_apply (t : Fin cfg0.N) (p : Fin 256) (d : Fin 512) :
    iblk m c 0 t (ix3 0 p d) = m ((c.tc : Thread nD τ).loc main_arg0) (ix3 (batchOf t) p d) := by
  blk_ext [iblk, V, at0 t]

theorem x1_apply (t : Fin cfg0.N) (p : Fin 256) (d : Fin 512) :
    iblk m c 1 t (ix3 0 p d) = m ((c.tc : Thread nD τ).loc main_arg1) (ix3 (batchOf t) p d) := by
  blk_ext [iblk, V, at1 t]

theorem x2_apply (t : Fin cfg0.N) (p : Fin 256) (d : Fin 512) :
    iblk m c 2 t (ix3 0 p d) = m ((c.tc : Thread nD τ).loc main_arg2) (ix3 (batchOf t) p d) := by
  blk_ext [iblk, V, at2 t]

theorem x3_apply (t : Fin cfg0.N) (p : Fin 256) (d : Fin 512) :
    iblk m c 3 t (ix3 0 p d) = m ((c.tc : Thread nD τ).loc main_arg3) (ix3 (batchOf t) p d) := by
  blk_ext [iblk, V, at3 t]

theorem m0_apply (t : Fin cfg0.N) (p d : Fin 256) :
    iblk m c 4 t (ix3 0 p d) = m ((c.tc : Thread nD τ).loc main_arg4) (ix3 (batchOf t) p d) := by
  blk_ext [iblk, V, at4 t]

theorem m1_apply (t : Fin cfg0.N) (p d : Fin 256) :
    iblk m c 5 t (ix3 0 p d) = m ((c.tc : Thread nD τ).loc main_arg5) (ix3 (batchOf t) p d) := by
  blk_ext [iblk, V, at5 t]

theorem m2_apply (t : Fin cfg0.N) (p d : Fin 256) :
    iblk m c 6 t (ix3 0 p d) = m ((c.tc : Thread nD τ).loc main_arg6) (ix3 (batchOf t) p d) := by
  blk_ext [iblk, V, at6 t]

theorem m3_apply (t : Fin cfg0.N) (p d : Fin 256) :
    iblk m c 7 t (ix3 0 p d) = m ((c.tc : Thread nD τ).loc main_arg7) (ix3 (batchOf t) p d) := by
  blk_ext [iblk, V, at7 t]

theorem wqkv_apply (t : Fin cfg0.N) (d : Fin 512) (e : Fin 1536) :
    iblk m c 8 t (ix2 d e) = m ((c.tc : Thread nD τ).loc main_arg9) (ix2 d e) := by
  blk_ext [iblk, V, at8 t]

theorem winner_apply (t : Fin cfg0.N) (d : Fin 256) (e : Fin 1024) :
    iblk m c 9 t (ix2 d e) = m ((c.tc : Thread nD τ).loc main_arg10) (ix2 d e) := by
  blk_ext [iblk, V, at9 t]

theorem wouter_apply (t : Fin cfg0.N) (d : Fin 256) (e : Fin 1024) :
    iblk m c 10 t (ix2 d e) = m ((c.tc : Thread nD τ).loc main_arg8) (ix2 d e) := by
  blk_ext [iblk, V, at10 t]

theorem wout_apply (t : Fin cfg0.N) (d : Fin 512) (e : Fin 512) :
    iblk m c 11 t (ix2 d e) = m ((c.tc : Thread nD τ).loc main_arg11) (ix2 d e) := by
  blk_ext [iblk, V, at11 t]

theorem bias_entry : V m c main_v0 = shapeCast S1x512 (m ((c.tc : Thread nD τ).loc main_arg12)) shapeCasts_S512_S1x512 := by
  entry_read
  rfl

theorem bout_apply (t : Fin cfg0.N) (n : Fin 512) :
    iblk m c 12 t (ix2 0 n) = m ((c.tc : Thread nD τ).loc main_arg12) (ix1 n) := by
  have h : iblk m c 12 t (ix2 0 n) = V m c main_v0 (ix2 0 n) := by
    blk_ext [iblk, at12 t]
  rw [h, bias_entry]
  pointwise []

theorem pay1_apply (w : Vec Ideal S512x1536 .f32) (d : Fin 512) (e : Fin 1536) : k0_pay1 w (ix2 d e) = w (ix2 d e) := by
  pointwise [k0_pay1]
theorem pay2_apply (w : Vec Ideal S256x1024 .f32) (d : Fin 256) (e : Fin 1024) : k0_pay2 w (ix2 d e) = w (ix2 d e) := by
  pointwise [k0_pay2]
theorem pay3_apply (w : Vec Ideal S512x512 .f32) (d : Fin 512) (e : Fin 512) : k0_pay3 w (ix2 d e) = w (ix2 d e) := by
  pointwise [k0_pay3]

theorem values_read (t : Fin cfg0.N) (w : Fin 4) (p : Fin 256) (d : Fin 512) :
    valuesOf (blocksAt m c t) w (ix3 0 p d) = ((arraysOf m c).data (batchOf t)).x w p d :=
  match w with
  | 0 => x0_apply m c t p d
  | 1 => x1_apply m c t p d
  | 2 => x2_apply m c t p d
  | 3 => x3_apply m c t p d

theorem meta_read (t : Fin cfg0.N) (w : Fin 4) (p d : Fin 256) :
    metaOf (blocksAt m c t) w (ix3 0 p d) = ((arraysOf m c).data (batchOf t)).m w p d :=
  match w with
  | 0 => m0_apply m c t p d
  | 1 => m1_apply m c t p d
  | 2 => m2_apply m c t p d
  | 3 => m3_apply m c t p d

theorem batch_prep : ∀ t : Fin cfg0.N, batchOf (prepPoint t.val t.isLt) = batchOf t := by decide +kernel

/-- What an attending point leaves in its output block. -/
theorem outAt_apply (t : Fin cfg0.N) (h : Attends (grid0.coords t)) (p : Fin 256) (n : Fin 512) :
    outAt m c t (ix2 p n) = (arraysOf m c).out (batchOf t) (srcOf t) p n := by
  have hb := batch_prep t
  set D := (arraysOf m c).data (batchOf t) with hD
  set B := blocksAt m c (prepPoint t.val t.isLt) with hB
  have hx : ∀ w p d, valuesOf B w (ix3 0 p d) = D.x w p d := fun w p d => by
    rw [hD, ← hb]; exact values_read m c _ w p d
  have hm : ∀ w p d, metaOf B w (ix3 0 p d) = D.m w p d := fun w p d => by
    rw [hD, ← hb]; exact meta_read m c _ w p d
  have hv : ∀ d e, (castWeights m c).wqkv (ix2 d e) = D.wv d e := fun d e =>
    (pay1_apply _ d e).trans (wqkv_apply m c start d e)
  have hi : ∀ d e, (castWeights m c).winner (ix2 d e) = D.wi d e := fun d e =>
    (pay2_apply _ d e).trans (winner_apply m c start d e)
  have ht : ∀ d e, (castWeights m c).wout (ix2 d e) = D.wt d e := fun d e =>
    (pay3_apply _ d e).trans (wout_apply m c start d e)
  have ho : ∀ d e, B.wouter (ix2 d e) = D.wo d e := fun d e =>
    wouter_apply m c (prepPoint t.val t.isLt) d e
  have hbo : ∀ n, (blocksAt m c t).bout (ix2 0 n) = D.bo n := fun n => bout_apply m c t n
  unfold outAt
  rw [dif_pos h, ← hB, exclWord_apply B D hm ho t h _ (Cert.Spec.lastOf_isLast _)]
  exact attBlock_apply (holds_stacks B (castWeights m c) D hx hm hv hi) t h _ _ _ ht hbo p n

theorem at13 : ∀ t : Fin cfg0.N, t.val % 5 ≠ 0 → win0_13.index t = ![4 * (batchOf t).val + (srcOf t).val, 0] := by decide +kernel

/-- The array the kernel leaves. -/
theorem result_eq : (dats m 0 c).arrAt 13 cfg0.N = (arraysOf m c).result := by
  refine (dats m 0 c).arrAt_eq_of_covers 13 _ (by decide +kernel) fun t hf y => ?_
  have ht : t.val % 5 ≠ 0 := fun h => by
    rw [out_unflushed t h] at hf
    exact Bool.noConfusion hf
  have hidx := at13 t ht
  rw [after_13]
  blk_simp
  have hy : y = ix2 (y 0 : Fin 256) (y 1 : Fin 512) := funext fun a => match a with
    | ⟨0, _⟩ => rfl
    | ⟨1, _⟩ => rfl
  refine (congrArg (outAt m c t) hy).trans ((outAt_apply m c t ((attends_iff t).mpr ht) (y 0) (y 1)).trans
    (Cert.Spec.Arrays.result_apply (arraysOf m c) _ (batchOf t) (srcOf t) (y 0) (y 1) ?_ ?_).symm)
  · have h := Pipeline.Window.rect_emb_val win0_13 t y 0 rfl
    rw [hidx] at h
    refine h.trans ?_
    show (4 * (batchOf t).val + (srcOf t).val) * 256 + (y 0).val = 1024 * (batchOf t).val + 256 * (srcOf t).val + (y 0).val
    omega
  · have h := Pipeline.Window.rect_emb_val win0_13 t y 1 rfl
    rw [hidx] at h
    refine h.trans ?_
    show 0 * 512 + (y 1).val = (y 1).val
    omega

end Cert.KernelIdeal.Proof

end
-- ==== Proof.RefNear.lean ====
module

public import proofs.«01_k».proof.Proof.Gen.ReferenceIdeal.Read
public import proofs.«01_k».proof.Proof.Arrays
public import Idealize.ShloMosaic.Lib.Pointwise

/-!
How near the sources are to each other, as the reference computes it.
-/

@[expose] public section

set_option maxRecDepth 65536

noncomputable section

namespace Cert.ReferenceIdeal.Proof

open Idealize.ShloMosaic Cert.ReferenceIdeal Cert.ReferenceIdeal.Gen Cert.ReferenceIdeal.Read
open Cert.Spec (clip clipR coe_clipR shift)

/-- Four arrays stacked along a new middle axis. -/
theorem stack3_apply {n : ℕ} {α : Type} (a0 a1 a2 a3 : (⟨3, ![2, 1, n]⟩ : Shape).Idx → α)
    (h : Shape.Concatenates (([⟨⟨3, ![2, 1, n]⟩, a0⟩, ⟨⟨3, ![2, 1, n]⟩, a1⟩, ⟨⟨3, ![2, 1, n]⟩, a2⟩, ⟨⟨3, ![2, 1, n]⟩, a3⟩]
      : List ((s : Shape) × (s.Idx → α))).map (·.1)) ⟨3, ![2, 4, n]⟩ 1) (b : Fin 2) (w : Fin 4) (j : Fin n) :
    concatenate ⟨3, ![2, 4, n]⟩ 1 [⟨⟨3, ![2, 1, n]⟩, a0⟩, ⟨⟨3, ![2, 1, n]⟩, a1⟩, ⟨⟨3, ![2, 1, n]⟩, a2⟩, ⟨⟨3, ![2, 1, n]⟩, a3⟩] h (ix3 b w j)
      = (![a0, a1, a2, a3] : Fin 4 → _) w (ix3 b 0 j) :=
  concatenate_ofFn_apply (t := ⟨3, ![2, 4, n]⟩) (s₁ := ⟨3, ![2, 1, n]⟩) 1 (![a0, a1, a2, a3] : Fin 4 → _) h rfl 1 rfl (ix3 b w j) w
    (by show w.val / 1 = w.val; omega) (ix3 b 0 j) (by show 0 = w.val % 1; omega) fun b hb => by
      match b with
      | ⟨0, _⟩ => rfl
      | ⟨1, _⟩ => exact absurd rfl hb
      | ⟨2, _⟩ => rfl

theorem mean0 (x : (⟨S2x256x256, .f32⟩ : BufTy).Contents (Elt Ideal)) (b : Fin 2) (j : Fin 256) :
    val_main_v12 (F := Ideal) x (ix3 b 0 j) = Ideal.div (∑ p : Fin 256, x (ix3 b p j)) (Ideal.ofBits .f32 0x43800000#32) := by
  pointwise [val_main_v12, val_main_v2, val_main_v1, val_main_v0, val_main_cst, val_main_cst_0]

theorem mean1 (x : (⟨S2x256x256, .f32⟩ : BufTy).Contents (Elt Ideal)) (b : Fin 2) (j : Fin 256) :
    val_main_v13 (F := Ideal) x (ix3 b 0 j) = Ideal.div (∑ p : Fin 256, x (ix3 b p j)) (Ideal.ofBits .f32 0x43800000#32) := by
  pointwise [val_main_v13, val_main_v5, val_main_v4, val_main_v3, val_main_cst_1, val_main_cst_2]

theorem mean2 (x : (⟨S2x256x256, .f32⟩ : BufTy).Contents (Elt Ideal)) (b : Fin 2) (j : Fin 256) :
    val_main_v14 (F := Ideal) x (ix3 b 0 j) = Ideal.div (∑ p : Fin 256, x (ix3 b p j)) (Ideal.ofBits .f32 0x43800000#32) := by
  pointwise [val_main_v14, val_main_v8, val_main_v7, val_main_v6, val_main_cst_3, val_main_cst_4]

theorem mean3 (x : (⟨S2x256x256, .f32⟩ : BufTy).Contents (Elt Ideal)) (b : Fin 2) (j : Fin 256) :
    val_main_v15 (F := Ideal) x (ix3 b 0 j) = Ideal.div (∑ p : Fin 256, x (ix3 b p j)) (Ideal.ofBits .f32 0x43800000#32) := by
  pointwise [val_main_v15, val_main_v11, val_main_v10, val_main_v9, val_main_cst_5, val_main_cst_6]

variable (A : Cert.Spec.Arrays)

theorem means_read (b : Fin 2) (w : Fin 4) (j : Fin 256) :
    val_main_v16 (F := Ideal) (A.m 0) (A.m 1) (A.m 2) (A.m 3) (ix3 b w j) = (A.data b).mean w j := by
  refine (stack3_apply _ _ _ _ concatenates_S2x1x256_S2x1x256_S2x1x256_S2x1x256_S2x4x256_d1 b w j).trans ?_
  match w with
  | 0 => exact mean0 (A.m 0) b j
  | 1 => exact mean1 (A.m 1) b j
  | 2 => exact mean2 (A.m 2) b j
  | 3 => exact mean3 (A.m 3) b j

theorem score_read (b : Fin 2) (s w : Fin 4) :
    val_main_v26 (F := Ideal) (A.m 0) (A.m 1) (A.m 2) (A.m 3) A.wo (ix3 b s w) = ((A.data b).outerScore s w : EReal) := by
  have hy := means_read A
  unfold val_main_v26 val_main_v25 val_main_v24 val_main_cst_11 val_main_v23 val_main_v22 val_main_v21 val_main_v20 val_main_call0_v4
    val_main_call0_v3 val_main_call0_v2 val_main_call0_v1 val_main_call0_v0 val_main_call1_v4 val_main_call1_v3 val_main_call1_v2
    val_main_call1_v1 val_main_call1_v0 val_main_cst_7 val_main_cst_8 val_main_cst_9 val_main_cst_10 val_main_v19 val_main_v18 val_main_v17
  generalize val_main_v16 (F := Ideal) (A.m 0) (A.m 1) (A.m 2) (A.m 3) = y at hy
  pointwise [dot_S2x4x512_S2x512x4_S2x4x4_2_1_1_2_0_0, dot_S2x4x256_S256x1024_S2x4x1024_2_0_01_1_n_n]
  have h := (A.data b).outerScore_div s w
  simp only [Cert.Spec.Data.outer, shift, Nat.zero_add, clip] at h
  simp only [hy]
  exact h

theorem near_read (b : Fin 2) (s w : Fin 4) :
    val_main_v48 (F := Ideal) (A.m 0) (A.m 1) (A.m 2) (A.m 3) A.wo (ix3 b s w) = ((A.data b).near s w : EReal) := by
  have hy := score_read A
  unfold val_main_v48 val_main_v47 val_main_v46 val_main_v45 val_main_v44 val_main_cst_15 val_main_v43 val_main_v42 val_main_v41 val_main_v40
    val_main_c val_main_v39 val_main_v38 val_main_v37 val_main_v36 val_main_v35 val_main_v34 val_main_cst_14 val_main_v33 val_main_v32
    val_main_v31 val_main_v30 val_main_v29 val_main_v28 val_main_cst_13 val_main_v27 val_main_cst_12
  generalize val_main_v26 (F := Ideal) (A.m 0) (A.m 1) (A.m 2) (A.m 3) A.wo = y at hy
  pointwise []
  have hI : (FloatOps.uitofp .f32 (IntOp.cmpi CmpIPredicate.eq (IntOp.addi (BitVec.ofNat 32 s.val) 0#32) (BitVec.ofNat 32 w.val)) : Ideal .f32)
      = (if s = w then 1 else 0 : EReal) := by
    have hb : ∀ s w : Fin 4, IntOp.cmpi CmpIPredicate.eq (IntOp.addi (BitVec.ofNat 32 s.val) 0#32) (BitVec.ofNat 32 w.val)
        = if s = w then 1#1 else 0#1 := by decide
    rw [hb]
    split
    · show (((1#1 : BitVec 1).toNat : ℝ) : EReal) = 1
      simp
    · show (((0#1 : BitVec 1).toNat : ℝ) : EReal) = 0
      simp
  simp only [hy, hI, Cert.Spec.ofBits_bottom_f32, Cert.Spec.ofBits_two_f32]
  obtain ⟨m, hm'⟩ := Cert.Spec.fold_max_real (fun a => (A.data b).outerScore s a)
  rw [hm', max_eq_right bot_le]
  exact (A.data b).near_coe s w m

end Cert.ReferenceIdeal.Proof

end
-- ==== Proof.Slots.lean ====
module

public import proofs.«01_k».proof.Proof.RefNear
public import Idealize.ShloMosaic.Lib.SortFacts

/-!
Which sources the three slots hold: all but the last in the order of the row of scores, the greatest first.
-/

@[expose] public section

noncomputable section

namespace Cert.Spec

open Idealize.ShloMosaic

/-- Two relations that agree wherever a later element of the list is compared with an earlier one sort it alike. -/
theorem sort_agree {ι : Type} (R R' : ι → ι → Bool) (l : List ι) (h : l.Pairwise fun a b => R b a = R' b a) :
    stableSort R l = stableSort R' l := by
  induction l with
  | nil => rfl
  | cons a l ih =>
    rw [List.pairwise_cons] at h
    unfold stableSort
    rw [ih h.2]
    exact insertBefore_congr R R' a _ fun b hb => h.1 b ((perm_stableSort R' l).mem_iff.mp hb)

open Classical in
/-- The order of the positions of a row, ties in favour of the earlier. -/
def order (r : Fin 4 → ℝ) (k c : Fin 4) : Bool := decide (Before r k c)

theorem order_false (r : Fin 4 → ℝ) (k c : Fin 4) : order r k c = false ↔ (k = c ∨ Before r c k) := by
  unfold order
  rw [decide_eq_false_iff_not]
  constructor
  · intro h
    by_cases hk : k = c
    · exact .inl hk
    · exact .inr ((before_total r hk).resolve_left h)
  · rintro (rfl | h) h'
    · exact before_asymm r h' h'
    · exact before_asymm r h h'

theorem sort_get {n : ℕ} (B B' : Fin n → Fin n → Bool) (h : sortPositions n B = sortPositions n B') : sortedFrom B = sortedFrom B' := by
  funext k
  unfold sortedFrom
  simp only [List.get_eq_getElem, Fin.val_cast]
  congr 1

open Classical in
/-- Sorting by the scores alone, stably, is sorting by the order. -/
theorem sort_scores (r : Fin 4 → ℝ) :
    sortedFrom (fun k c : Fin 4 => decide (r c < r k)) = sortedFrom (order r) := by
  refine sort_get _ _ (sort_agree _ _ _ ((List.pairwise_lt_finRange 4).imp fun {a b} hab => ?_))
  unfold order Before
  refine decide_eq_decide.mpr ⟨.inl, ?_⟩
  rintro (h | ⟨-, h⟩)
  · exact h
  · exact absurd h hab.not_gt

open Classical in
theorem order_sorted (r : Fin 4 → ℝ) (i j : Fin 4) (h : i < j) :
    sortedFrom (order r) j = sortedFrom (order r) i ∨ Before r (sortedFrom (order r) i) (sortedFrom (order r) j) := by
  refine (order_false r _ _).mp (sortedFrom_noInversion (order r) (order r) ?_ (fun _ _ => id) ?_ i j h)
  · intro a b hab
    exact (order_false r b a).mpr (.inr (by unfold order at hab; exact of_decide_eq_true hab))
  · intro a b c hab hbc
    rw [order_false] at hab hbc ⊢
    rcases hab with rfl | hab
    · exact hbc
    · rcases hbc with rfl | hbc
      · exact .inr hab
      · exact .inr (before_trans r hbc hab)

/-- The first position in the order is the one with the greatest score, the last the last. -/
theorem slots_of_order (r : Fin 4 → ℝ) (s : Fin 4) (hs : ∀ w, w ≠ s → r w < r s) :
    sortedFrom (order r) 0 = s ∧ ∃ π : Fin 3 ≃ Fin 3, ∀ k : Fin 3, sortedFrom (order r) k.castSucc = (lastOf r).succAbove (π k) := by
  have hinj := sortedFrom_injective (order r)
  have hlast : lastOf r = sortedFrom (order r) 3 := by
    refine isLast_unique r (lastOf_isLast r) fun k hk => ?_
    obtain ⟨i, rfl⟩ := sortedFrom_surjective (order r) k
    have hi : i < 3 := by
      have hne : i ≠ 3 := fun h => hk (by rw [h])
      have := i.isLt
      rw [Fin.lt_def]
      have h3 : i.val ≠ 3 := fun h => hne (Fin.ext h)
      show i.val < 3
      omega
    exact (order_sorted r i 3 hi).resolve_left (Ne.symm hk)
  refine ⟨?_, ?_⟩
  · by_contra hne
    obtain ⟨i, hi⟩ := sortedFrom_surjective (order r) s
    have h0 : (0 : Fin 4) < i := Fin.pos_of_ne_zero fun h => hne (by rw [← hi, h])
    rcases order_sorted r 0 i h0 with h | h
    · exact hne (h.symm.trans hi)
    · rw [hi] at h
      have hlt := hs _ hne
      rcases h with h | ⟨h, -⟩
      · exact lt_asymm h hlt
      · exact absurd h hlt.ne
  · have hex : ∀ k : Fin 3, ∃ q : Fin 3, (lastOf r).succAbove q = sortedFrom (order r) k.castSucc := fun k =>
      Fin.exists_succAbove_eq fun h => by
        rw [hlast] at h
        exact absurd (hinj h) (Fin.castSucc_lt_last k).ne
    choose π hπ using hex
    have hπi : Function.Injective π := fun a b hab => by
      have h : sortedFrom (order r) a.castSucc = sortedFrom (order r) b.castSucc := by rw [← hπ a, ← hπ b, hab]
      exact Fin.castSucc_injective 3 (hinj h)
    exact ⟨Equiv.ofBijective π (Finite.injective_iff_bijective.mp hπi), fun k => (hπ k).symm⟩

end Cert.Spec

namespace Cert.ReferenceIdeal.Proof

open Idealize.ShloMosaic Cert.ReferenceIdeal Cert.ReferenceIdeal.Gen Cert.ReferenceIdeal.Read

theorem along_last (b : Fin 2) (s k : Fin 4) (c : Fin 4) :
    (ix3 b s k : S2x4x4.Idx).along (2 : Fin 3) c = ix3 b s c := by
  funext a
  match a with
  | ⟨0, _⟩ => rfl
  | ⟨1, _⟩ => rfl
  | ⟨2, _⟩ => rfl

/-- The positions `topK` gives, for a row of real scores. -/
theorem topK_positions (x : S2x4x4.Idx → EReal) (b : Fin 2) (s : Fin 4) (r : Fin 4 → ℝ) (hr : ∀ w, x (ix3 b s w) = (r w : EReal)) (k : Fin 3) :
    (Host.topK S2x4x3 2 (FloatOps.cmpfTotal (F := Ideal) (φ := .f32) .gt) x sliceFits_S2x4x4_S2x4x3).2 (ix3 b s k)
      = BitVec.ofNat 32 (sortedFrom (Cert.Spec.order r) k.castSucc).val := by
  unfold Host.topK
  dsimp only
  refine (extractStridedSlice_apply (fun _ => 0) _ sliceFits_S2x4x4_S2x4x3 (ix3 b s k) (ix3 b s k.castSucc) (fun a => ?_)).trans ?_
  · match a with
    | ⟨0, _⟩ => exact (Nat.zero_add _).symm
    | ⟨1, _⟩ => exact (Nat.zero_add _).symm
    | ⟨2, _⟩ => exact (Nat.zero_add _).symm
  · unfold Host.sort2
    rw [dif_pos (by decide : 2 < S2x4x4.rank)]
    have hcmp : (fun c c' : Fin 4 => FloatOps.cmpfTotal (F := Ideal) (φ := .f32) .gt (x ((ix3 b s k.castSucc : S2x4x4.Idx).along (2 : Fin 3) c))
        (x ((ix3 b s k.castSucc : S2x4x4.Idx).along (2 : Fin 3) c')) == 1#1) = fun c c' => decide (r c' < r c) := by
      funext c c'
      rw [along_last, along_last, hr, hr]
      show (BitVec.ofBool (decide ((r c' : EReal) < (r c : EReal))) == 1#1) = _
      rw [decide_eq_decide.mpr (EReal.coe_lt_coe_iff : (r c' : EReal) < (r c : EReal) ↔ r c' < r c)]
      cases decide (r c' < r c) <;> rfl
    have hsort : sortedFrom (fun c c' : Fin 4 => FloatOps.cmpfTotal (F := Ideal) (φ := .f32) .gt (x ((ix3 b s k.castSucc : S2x4x4.Idx).along (2 : Fin 3) c))
        (x ((ix3 b s k.castSucc : S2x4x4.Idx).along (2 : Fin 3) c')) == 1#1) = sortedFrom (Cert.Spec.order r) := by
      rw [hcmp, Cert.Spec.sort_scores]
    dsimp only
    rw [dif_pos (by decide : 2 < 3)]
    refine (congrArg (fun f : Fin 4 → Fin 4 => iotaInDim S2x4x4 32 (2 : Fin 3) ((ix3 b s k.castSucc : S2x4x4.Idx).along (2 : Fin 3) (f k.castSucc)))
      hsort).trans ?_
    rw [along_last]
    rfl

end Cert.ReferenceIdeal.Proof

end
-- ==== Proof.RefGather.lean ====
module

public import proofs.«01_k».proof.Proof.Slots

/-!
The reference's gathers: each of a source's three slots holds the values and the metadata of the source chosen for it.
-/

@[expose] public section

set_option maxRecDepth 65536

noncomputable section

namespace Cert.ReferenceIdeal.Proof

open Idealize.ShloMosaic Cert.ReferenceIdeal Cert.ReferenceIdeal.Gen Cert.ReferenceIdeal.Read

/-! ## Stacks -/

/-- Four arrays stacked along a new second axis. -/
theorem stack4_apply {n : ℕ} {α : Type} (a0 a1 a2 a3 : (⟨4, ![2, 1, 256, n]⟩ : Shape).Idx → α)
    (h : Shape.Concatenates (([⟨⟨4, ![2, 1, 256, n]⟩, a0⟩, ⟨⟨4, ![2, 1, 256, n]⟩, a1⟩, ⟨⟨4, ![2, 1, 256, n]⟩, a2⟩, ⟨⟨4, ![2, 1, 256, n]⟩, a3⟩]
      : List ((s : Shape) × (s.Idx → α))).map (·.1)) ⟨4, ![2, 4, 256, n]⟩ 1) (b : Fin 2) (w : Fin 4) (p : Fin 256) (j : Fin n) :
    concatenate ⟨4, ![2, 4, 256, n]⟩ 1 [⟨⟨4, ![2, 1, 256, n]⟩, a0⟩, ⟨⟨4, ![2, 1, 256, n]⟩, a1⟩, ⟨⟨4, ![2, 1, 256, n]⟩, a2⟩, ⟨⟨4, ![2, 1, 256, n]⟩, a3⟩] h (ix4 b w p j)
      = (![a0, a1, a2, a3] : Fin 4 → _) w (ix4 b 0 p j) :=
  concatenate_ofFn_apply (t := ⟨4, ![2, 4, 256, n]⟩) (s₁ := ⟨4, ![2, 1, 256, n]⟩) 1 (![a0, a1, a2, a3] : Fin 4 → _) h rfl 1 rfl (ix4 b w p j) w
    (by show w.val / 1 = w.val; omega) (ix4 b 0 p j) (by show 0 = w.val % 1; omega) fun b hb => by
      match b with
      | ⟨0, _⟩ => rfl
      | ⟨1, _⟩ => exact absurd rfl hb
      | ⟨2, _⟩ => rfl
      | ⟨3, _⟩ => rfl

/-- Two arrays of index words, one beside the other. -/
theorem beside_apply {α : Type} (a0 a1 : S2x4x3x1.Idx → α)
    (h : Shape.Concatenates (([⟨S2x4x3x1, a0⟩, ⟨S2x4x3x1, a1⟩] : List ((s : Shape) × (s.Idx → α))).map (·.1)) S2x4x3x2 3)
    (b : Fin 2) (s : Fin 4) (k : Fin 3) (e : Fin 2) :
    concatenate S2x4x3x2 3 [⟨S2x4x3x1, a0⟩, ⟨S2x4x3x1, a1⟩] h (ix4 b s k e) = (![a0, a1] : Fin 2 → _) e (ix4 b s k 0) :=
  concatenate_ofFn_apply (t := S2x4x3x2) (s₁ := S2x4x3x1) 3 (![a0, a1] : Fin 2 → _) h rfl 1 rfl (ix4 b s k e) e
    (by show e.val / 1 = e.val; omega) (ix4 b s k 0) (by show 0 = e.val % 1; omega) fun b hb => by
      match b with
      | ⟨0, _⟩ => rfl
      | ⟨1, _⟩ => rfl
      | ⟨2, _⟩ => rfl
      | ⟨3, _⟩ => exact absurd rfl hb

variable (A : Cert.Spec.Arrays)

theorem values_stacked (b : Fin 2) (w : Fin 4) (p : Fin 256) (j : Fin 512) :
    val_main_v53 (F := Ideal) (A.x 0) (A.x 1) (A.x 2) (A.x 3) (ix4 b w p j) = A.x w (ix3 b p j) := by
  refine (stack4_apply _ _ _ _ concatenates_S2x1x256x512_S2x1x256x512_S2x1x256x512_S2x1x256x512_S2x4x256x512_d1 b w p j).trans ?_
  match w with
  | 0 => exact val_main_v49_apply (F := Ideal) (A.x 0) (ix4 b 0 p j) |>.trans (congrArg _ (by funext a; match a with | 0 => rfl | 1 => rfl | 2 => rfl))
  | 1 => exact val_main_v50_apply (F := Ideal) (A.x 1) (ix4 b 0 p j) |>.trans (congrArg _ (by funext a; match a with | 0 => rfl | 1 => rfl | 2 => rfl))
  | 2 => exact val_main_v51_apply (F := Ideal) (A.x 2) (ix4 b 0 p j) |>.trans (congrArg _ (by funext a; match a with | 0 => rfl | 1 => rfl | 2 => rfl))
  | 3 => exact val_main_v52_apply (F := Ideal) (A.x 3) (ix4 b 0 p j) |>.trans (congrArg _ (by funext a; match a with | 0 => rfl | 1 => rfl | 2 => rfl))

theorem metadata_stacked (b : Fin 2) (w : Fin 4) (p : Fin 256) (j : Fin 256) :
    val_main_v58 (F := Ideal) (A.m 0) (A.m 1) (A.m 2) (A.m 3) (ix4 b w p j) = A.m w (ix3 b p j) := by
  refine (stack4_apply _ _ _ _ concatenates_S2x1x256x256_S2x1x256x256_S2x1x256x256_S2x1x256x256_S2x4x256x256_d1 b w p j).trans ?_
  match w with
  | 0 => exact val_main_v54_apply (F := Ideal) (A.m 0) (ix4 b 0 p j) |>.trans (congrArg _ (by funext a; match a with | 0 => rfl | 1 => rfl | 2 => rfl))
  | 1 => exact val_main_v55_apply (F := Ideal) (A.m 1) (ix4 b 0 p j) |>.trans (congrArg _ (by funext a; match a with | 0 => rfl | 1 => rfl | 2 => rfl))
  | 2 => exact val_main_v56_apply (F := Ideal) (A.m 2) (ix4 b 0 p j) |>.trans (congrArg _ (by funext a; match a with | 0 => rfl | 1 => rfl | 2 => rfl))
  | 3 => exact val_main_v57_apply (F := Ideal) (A.m 3) (ix4 b 0 p j) |>.trans (congrArg _ (by funext a; match a with | 0 => rfl | 1 => rfl | 2 => rfl))

/-! ## Index words -/

/-- The source in slot `k` of source `s`. -/
def slot (b : Fin 2) (s : Fin 4) (k : Fin 3) : Fin 4 := sortedFrom (Cert.Spec.order ((A.data b).near s)) k.castSucc

theorem slot_word (b : Fin 2) (s : Fin 4) (k : Fin 3) :
    val_main_indices (F := Ideal) (A.m 0) (A.m 1) (A.m 2) (A.m 3) A.wo (ix3 b s k) = BitVec.ofNat 32 (slot A b s k).val :=
  topK_positions _ b s _ (fun w => near_read A b s w) k

/-- A word that is not negative is kept. -/
theorem kept_source (w : Fin 4) (y : BitVec 32) :
    Scalar.select (BitVec.ofBool (decide ((BitVec.ofNat 32 w.val).toInt < (0#32 : BitVec 32).toInt))) y (BitVec.ofNat 32 w.val) = BitVec.ofNat 32 w.val := by
  match w with
  | 0 => rfl
  | 1 => rfl
  | 2 => rfl
  | 3 => rfl

theorem kept_batch (b : Fin 2) (y : BitVec 32) :
    Scalar.select (BitVec.ofBool (decide ((BitVec.ofNat 32 b.val).toInt < (0#32 : BitVec 32).toInt))) y (BitVec.ofNat 32 b.val) = BitVec.ofNat 32 b.val := by
  match b with
  | 0 => rfl
  | 1 => rfl

theorem value_batch_word (b : Fin 2) (s : Fin 4) (k : Fin 3) :
    val_main_v73 (F := Ideal) (ix4 b s k 0) = BitVec.ofNat 32 b.val := by
  pointwise [val_main_v73, val_main_v72, val_main_v66, val_main_v63, val_main_v62, val_main_c_17, val_main_v61, val_main_v60]
  exact kept_batch b _

theorem value_source_word (b : Fin 2) (s : Fin 4) (k : Fin 3) :
    val_main_v74 (F := Ideal) (A.m 0) (A.m 1) (A.m 2) (A.m 3) A.wo (ix4 b s k 0) = BitVec.ofNat 32 (slot A b s k).val := by
  have hy := slot_word A
  unfold val_main_v74 val_main_v71 val_main_v68 val_main_v70 val_main_v67 val_main_c_19
  generalize val_main_indices (F := Ideal) (A.m 0) (A.m 1) (A.m 2) (A.m 3) A.wo = y at hy
  pointwise []
  rw [hy]
  exact kept_source _ _

theorem value_words (b : Fin 2) (s : Fin 4) (k : Fin 3) :
    val_main_v75 (F := Ideal) (A.m 0) (A.m 1) (A.m 2) (A.m 3) A.wo (ix4 b s k 0) = BitVec.ofNat 32 b.val
      ∧ val_main_v75 (F := Ideal) (A.m 0) (A.m 1) (A.m 2) (A.m 3) A.wo (ix4 b s k 1) = BitVec.ofNat 32 (slot A b s k).val := by
  have h0 := value_batch_word b s k
  have h1 := value_source_word A b s k
  unfold val_main_v75
  generalize val_main_v73 (F := Ideal) = y0 at h0 ⊢
  generalize val_main_v74 (F := Ideal) (A.m 0) (A.m 1) (A.m 2) (A.m 3) A.wo = y1 at h1 ⊢
  exact ⟨(beside_apply y0 y1 concatenates_S2x4x3x1_S2x4x3x1_S2x4x3x2_d3 b s k 0).trans h0,
    (beside_apply y0 y1 concatenates_S2x4x3x1_S2x4x3x1_S2x4x3x2_d3 b s k 1).trans h1⟩

theorem metadata_batch_word (b : Fin 2) (s : Fin 4) (k : Fin 3) :
    val_main_v88 (F := Ideal) (ix4 b s k 0) = BitVec.ofNat 32 b.val := by
  pointwise [val_main_v88, val_main_v87, val_main_v81, val_main_v78, val_main_v77, val_main_c_21, val_main_v61, val_main_v60]
  exact kept_batch b _

theorem metadata_source_word (b : Fin 2) (s : Fin 4) (k : Fin 3) :
    val_main_v89 (F := Ideal) (A.m 0) (A.m 1) (A.m 2) (A.m 3) A.wo (ix4 b s k 0) = BitVec.ofNat 32 (slot A b s k).val := by
  have hy := slot_word A
  unfold val_main_v89 val_main_v86 val_main_v83 val_main_v85 val_main_v82 val_main_c_23
  generalize val_main_indices (F := Ideal) (A.m 0) (A.m 1) (A.m 2) (A.m 3) A.wo = y at hy
  pointwise []
  rw [hy]
  exact kept_source _ _

theorem metadata_words (b : Fin 2) (s : Fin 4) (k : Fin 3) :
    val_main_v90 (F := Ideal) (A.m 0) (A.m 1) (A.m 2) (A.m 3) A.wo (ix4 b s k 0) = BitVec.ofNat 32 b.val
      ∧ val_main_v90 (F := Ideal) (A.m 0) (A.m 1) (A.m 2) (A.m 3) A.wo (ix4 b s k 1) = BitVec.ofNat 32 (slot A b s k).val := by
  have h0 := metadata_batch_word b s k
  have h1 := metadata_source_word A b s k
  unfold val_main_v90
  generalize val_main_v88 (F := Ideal) = y0 at h0 ⊢
  generalize val_main_v89 (F := Ideal) (A.m 0) (A.m 1) (A.m 2) (A.m 3) A.wo = y1 at h1 ⊢
  exact ⟨(beside_apply y0 y1 concatenates_S2x4x3x1_S2x4x3x1_S2x4x3x2_d3 b s k 0).trans h0,
    (beside_apply y0 y1 concatenates_S2x4x3x1_S2x4x3x1_S2x4x3x2_d3 b s k 1).trans h1⟩

/-! ## Gathers -/

theorem batch_start (b : Fin 2) : min (BitVec.ofNat 32 b.val).toInt.toNat (2 - 1) = b.val := by
  match b with
  | 0 => rfl
  | 1 => rfl

theorem source_start (w : Fin 4) : min (BitVec.ofNat 32 w.val).toInt.toNat (4 - 1) = w.val := by
  match w with
  | 0 => rfl
  | 1 => rfl
  | 2 => rfl
  | 3 => rfl

theorem ix4_ext {i j : S2x4x3x2.Idx} (h0 : i 0 = j 0) (h1 : i 1 = j 1) (h2 : i 2 = j 2) (h3 : i 3 = j 3) : i = j := by
  funext a
  match a with
  | 0 => exact h0
  | 1 => exact h1
  | 2 => exact h2
  | 3 => exact h3

/-- A slot of the gathered values is the named source's. -/
theorem gather_values (y : S2x4x256x512.Idx → EReal) (idx : IVec S2x4x3x2 32) (b : Fin 2) (s : Fin 4) (k : Fin 3) (p : Fin 256)
    (j : Fin 512) (w : Fin 4) (h0 : idx (ix4 b s k 0) = BitVec.ofNat 32 b.val) (h1 : idx (ix4 b s k 1) = BitVec.ofNat 32 w.val) :
    Host.gather gather_S2x4x256x512_S2x4x3x2_S2x4x3x256x512_34_01_n_n_01_3_11256512 y idx (ix5 b s k p j) = y (ix4 b w p j) := by
  unfold Host.gather
  congr 1
  funext a
  refine Fin.ext ?_
  match a with
  | 0 =>
    show min (idx (gather_S2x4x256x512_S2x4x3x2_S2x4x3x256x512_34_01_n_n_01_3_11256512.siIdx (ix5 b s k p j) ⟨0, by decide⟩)).toInt.toNat (2 - 1) + 0 + 0 = b.val
    rw [show gather_S2x4x256x512_S2x4x3x2_S2x4x3x256x512_34_01_n_n_01_3_11256512.siIdx (ix5 b s k p j) ⟨0, by decide⟩ = ix4 b s k 0 from
      ix4_ext rfl rfl rfl rfl, h0]
    exact batch_start b
  | 1 =>
    show min (idx (gather_S2x4x256x512_S2x4x3x2_S2x4x3x256x512_34_01_n_n_01_3_11256512.siIdx (ix5 b s k p j) ⟨1, by decide⟩)).toInt.toNat (4 - 1) + 0 + 0 = w.val
    rw [show gather_S2x4x256x512_S2x4x3x2_S2x4x3x256x512_34_01_n_n_01_3_11256512.siIdx (ix5 b s k p j) ⟨1, by decide⟩ = ix4 b s k 1 from
      ix4_ext rfl rfl rfl rfl, h1]
    exact source_start w
  | 2 => show 0 + 0 + p.val = p.val; omega
  | 3 => show 0 + 0 + j.val = j.val; omega

/-- The same for the metadata. -/
theorem gather_metadata (y : S2x4x256x256.Idx → EReal) (idx : IVec S2x4x3x2 32) (b : Fin 2) (s : Fin 4) (k : Fin 3) (p : Fin 256)
    (j : Fin 256) (w : Fin 4) (h0 : idx (ix4 b s k 0) = BitVec.ofNat 32 b.val) (h1 : idx (ix4 b s k 1) = BitVec.ofNat 32 w.val) :
    Host.gather gather_S2x4x256x256_S2x4x3x2_S2x4x3x256x256_34_01_n_n_01_3_11256256 y idx (ix5 b s k p j) = y (ix4 b w p j) := by
  unfold Host.gather
  congr 1
  funext a
  refine Fin.ext ?_
  match a with
  | 0 =>
    show min (idx (gather_S2x4x256x256_S2x4x3x2_S2x4x3x256x256_34_01_n_n_01_3_11256256.siIdx (ix5 b s k p j) ⟨0, by decide⟩)).toInt.toNat (2 - 1) + 0 + 0 = b.val
    rw [show gather_S2x4x256x256_S2x4x3x2_S2x4x3x256x256_34_01_n_n_01_3_11256256.siIdx (ix5 b s k p j) ⟨0, by decide⟩ = ix4 b s k 0 from
      ix4_ext rfl rfl rfl rfl, h0]
    exact batch_start b
  | 1 =>
    show min (idx (gather_S2x4x256x256_S2x4x3x2_S2x4x3x256x256_34_01_n_n_01_3_11256256.siIdx (ix5 b s k p j) ⟨1, by decide⟩)).toInt.toNat (4 - 1) + 0 + 0 = w.val
    rw [show gather_S2x4x256x256_S2x4x3x2_S2x4x3x256x256_34_01_n_n_01_3_11256256.siIdx (ix5 b s k p j) ⟨1, by decide⟩ = ix4 b s k 1 from
      ix4_ext rfl rfl rfl rfl, h1]
    exact source_start w
  | 2 => show 0 + 0 + p.val = p.val; omega
  | 3 => show 0 + 0 + j.val = j.val; omega

/-! ## The rows attended to -/

/-- Batch row `b`'s source `s`, as one row number. -/
def pairRow (b : Fin 2) (s : Fin 4) : Fin 8 := ⟨4 * b.val + s.val, by omega⟩

/-- Row `p` of slot `k`, as one row number. -/
def slotRow (k : Fin 3) (p : Fin 256) : Fin 768 := ⟨256 * k.val + p.val, by omega⟩

theorem values_read (b : Fin 2) (s : Fin 4) (k : Fin 3) (p : Fin 256) (j : Fin 512) :
    val_main_v107 (F := Ideal) (A.x 0) (A.x 1) (A.x 2) (A.x 3) (A.m 0) (A.m 1) (A.m 2) (A.m 3) A.wo (ix3 (pairRow b s) (slotRow k p) j)
      = A.x (slot A b s k) (ix3 b p j) := by
  rw [val_main_v107_apply]
  refine (congrArg _ (?_ : _ = ix5 b s k p j)).trans ((gather_values _ _ b s k p j _ (value_words A b s k).1 (value_words A b s k).2).trans
    (values_stacked A b _ p j))
  funext a
  refine Fin.ext ?_
  match a with
  | 0 => show (((4 * b.val + s.val) * 768 + (256 * k.val + p.val)) * 512 + j.val) / 1572864 = b.val; omega
  | 1 => show (((4 * b.val + s.val) * 768 + (256 * k.val + p.val)) * 512 + j.val) / 393216 % 4 = s.val; omega
  | 2 => show (((4 * b.val + s.val) * 768 + (256 * k.val + p.val)) * 512 + j.val) / 131072 % 3 = k.val; omega
  | 3 => show (((4 * b.val + s.val) * 768 + (256 * k.val + p.val)) * 512 + j.val) / 512 % 256 = p.val; omega
  | 4 => show (((4 * b.val + s.val) * 768 + (256 * k.val + p.val)) * 512 + j.val) % 512 = j.val; omega

theorem metadata_read (b : Fin 2) (s : Fin 4) (k : Fin 3) (p : Fin 256) (j : Fin 256) :
    val_main_v108 (F := Ideal) (A.m 0) (A.m 1) (A.m 2) (A.m 3) A.wo (ix3 (pairRow b s) (slotRow k p) j)
      = A.m (slot A b s k) (ix3 b p j) := by
  rw [val_main_v108_apply]
  refine (congrArg _ (?_ : _ = ix5 b s k p j)).trans ((gather_metadata _ _ b s k p j _ (metadata_words A b s k).1 (metadata_words A b s k).2).trans
    (metadata_stacked A b _ p j))
  funext a
  refine Fin.ext ?_
  match a with
  | 0 => show (((4 * b.val + s.val) * 768 + (256 * k.val + p.val)) * 256 + j.val) / 786432 = b.val; omega
  | 1 => show (((4 * b.val + s.val) * 768 + (256 * k.val + p.val)) * 256 + j.val) / 196608 % 4 = s.val; omega
  | 2 => show (((4 * b.val + s.val) * 768 + (256 * k.val + p.val)) * 256 + j.val) / 65536 % 3 = k.val; omega
  | 3 => show (((4 * b.val + s.val) * 768 + (256 * k.val + p.val)) * 256 + j.val) / 256 % 256 = p.val; omega
  | 4 => show (((4 * b.val + s.val) * 768 + (256 * k.val + p.val)) * 256 + j.val) % 256 = j.val; omega

/-- No row is masked. -/
theorem mask_read (i : S8x768.Idx) : val_main_v109 (F := Ideal) (A.m 0) (A.m 1) (A.m 2) (A.m 3) A.wo i = 0#1 := by
  rw [val_main_v109_apply]
  unfold val_main_v106 Host.gather
  rw [val_main_v59_apply]
  rfl

end Cert.ReferenceIdeal.Proof

end
-- ==== Proof.RefHeads.lean ====
module

public import proofs.«01_k».proof.Proof.RefGather

/-!
The reference's projections, clipped and cut into heads, and its scores.
-/

@[expose] public section

set_option maxRecDepth 65536

noncomputable section

namespace Cert.ReferenceIdeal.Proof

open Idealize.ShloMosaic Cert.ReferenceIdeal Cert.ReferenceIdeal.Gen Cert.ReferenceIdeal.Read
open Cert.Spec (clip clipR coe_clipR shift headCol)

variable (A : Cert.Spec.Arrays)

theorem values_projected (b : Fin 2) (s : Fin 4) (k : Fin 3) (p : Fin 256) (c : Fin 1536) :
    val_main_v110 (F := Ideal) (A.x 0) (A.x 1) (A.x 2) (A.x 3) (A.m 0) (A.m 1) (A.m 2) (A.m 3) A.wo A.wv (ix3 (pairRow b s) (slotRow k p) c)
      = (A.data b).pv (slot A b s k) p c := by
  have hy := values_read A b s k p
  unfold val_main_v110
  generalize val_main_v107 (F := Ideal) (A.x 0) (A.x 1) (A.x 2) (A.x 3) (A.m 0) (A.m 1) (A.m 2) (A.m 3) A.wo = y at hy
  pointwise [dot_S8x768x512_S512x1536_S8x768x1536_2_0_01_1_n_n]
  simp only [hy]
  rfl

theorem metadata_projected (b : Fin 2) (s : Fin 4) (k : Fin 3) (p : Fin 256) (c : Fin 1024) :
    val_main_v114 (F := Ideal) (A.m 0) (A.m 1) (A.m 2) (A.m 3) A.wo A.wi (ix3 (pairRow b s) (slotRow k p) c)
      = (A.data b).pm (slot A b s k) p c := by
  have hy := metadata_read A b s k p
  unfold val_main_v114
  generalize val_main_v108 (F := Ideal) (A.m 0) (A.m 1) (A.m 2) (A.m 3) A.wo = y at hy
  pointwise [dot_S8x768x256_S256x1024_S8x768x1024_2_0_01_1_n_n]
  simp only [hy]
  rfl

/-- The column at which entry `d` of head `h` begins, in the third that begins at `o`. -/
theorem column_eq {n o t : ℕ} (ho : o + 512 ≤ n) (h : Fin 8) (d : Fin 64) (ht : t < n) (e : t = o + (h.val * 64 + d.val)) :
    (⟨t, ht⟩ : Fin n) = shift o ho (headCol h d) :=
  Fin.ext (by show t = o + (64 * h.val + d.val); omega)

/-- Clipping between two words read as -5 and 5. -/
theorem clip_words {lo hi : EReal} (hl : lo = Ideal.ofBits .f32 0xC0A00000#32) (hh : hi = Ideal.ofBits .f32 0x40A00000#32) (x : EReal) :
    min hi (max lo x) = clip x := by
  rw [hl, hh, clip]

theorem word_read (w : BitVec 32) : (id (constant (F := Ideal) S_ .f32 w) ix0 : EReal) = Ideal.ofBits .f32 w := rfl

/-! The thirds of a row of projections, cut into heads. -/

theorem values_third0 (y : S8x768x1536.Idx → EReal) (i h : Fin 8) (r : Fin 768) (d : Fin 64) :
    transpose S8x8x768x64 [0, 2, 1, 3] (shapeCast S8x768x8x64 (extractStridedSlice S8x768x512 ![0, 0, 0] y slices_S8x768x1536_S8x768x512_0_0_0)
        shapeCasts_S8x768x512_S8x768x8x64) transposes_S8x768x8x64_S8x8x768x64_0_2_1_3 (ix4 i h r d)
      = y (ix3 i r (shift 0 (by omega) (headCol h d))) := by
  pointwise []
  rw [column_eq (o := 0) (by omega) h d _ (by omega)]

theorem values_third1 (y : S8x768x1536.Idx → EReal) (i h : Fin 8) (r : Fin 768) (d : Fin 64) :
    transpose S8x8x768x64 [0, 2, 1, 3] (shapeCast S8x768x8x64 (extractStridedSlice S8x768x512 ![0, 0, 512] y slices_S8x768x1536_S8x768x512_0_0_512)
        shapeCasts_S8x768x512_S8x768x8x64) transposes_S8x768x8x64_S8x8x768x64_0_2_1_3 (ix4 i h r d)
      = y (ix3 i r (shift 512 (by omega) (headCol h d))) := by
  pointwise []
  rw [column_eq (o := 512) (by omega) h d _ (by omega)]

theorem values_third2 (y : S8x768x1536.Idx → EReal) (i h : Fin 8) (r : Fin 768) (d : Fin 64) :
    transpose S8x8x768x64 [0, 2, 1, 3] (shapeCast S8x768x8x64 (extractStridedSlice S8x768x512 ![0, 0, 1024] y slices_S8x768x1536_S8x768x512_0_0_1024)
        shapeCasts_S8x768x512_S8x768x8x64) transposes_S8x768x8x64_S8x8x768x64_0_2_1_3 (ix4 i h r d)
      = y (ix3 i r (shift 1024 (by omega) (headCol h d))) := by
  pointwise []
  rw [column_eq (o := 1024) (by omega) h d _ (by omega)]

theorem metadata_third0 (y : S8x768x1024.Idx → EReal) (i h : Fin 8) (r : Fin 768) (d : Fin 64) :
    transpose S8x8x768x64 [0, 2, 1, 3] (shapeCast S8x768x8x64 (extractStridedSlice S8x768x512 ![0, 0, 0] y slices_S8x768x1024_S8x768x512_0_0_0)
        shapeCasts_S8x768x512_S8x768x8x64) transposes_S8x768x8x64_S8x8x768x64_0_2_1_3 (ix4 i h r d)
      = y (ix3 i r (shift 0 (by omega) (headCol h d))) := by
  pointwise []
  rw [column_eq (o := 0) (by omega) h d _ (by omega)]

theorem metadata_third1 (y : S8x768x1024.Idx → EReal) (i h : Fin 8) (r : Fin 768) (d : Fin 64) :
    transpose S8x8x768x64 [0, 2, 1, 3] (shapeCast S8x768x8x64 (extractStridedSlice S8x768x512 ![0, 0, 512] y slices_S8x768x1024_S8x768x512_0_0_512)
        shapeCasts_S8x768x512_S8x768x8x64) transposes_S8x768x8x64_S8x8x768x64_0_2_1_3 (ix4 i h r d)
      = y (ix3 i r (shift 512 (by omega) (headCol h d))) := by
  pointwise []
  rw [column_eq (o := 512) (by omega) h d _ (by omega)]

theorem vquery_clip (y : S8x8x768x64.Idx → EReal) (i h : Fin 8) (r : Fin 768) (d : Fin 64) :
    minimumf (F := Ideal) (φ := .f32) (val_main_call2_v4 (F := Ideal)) (maximumf (F := Ideal) (φ := .f32) (val_main_call2_v1 (F := Ideal)) y) (ix4 i h r d)
      = clip (y (ix4 i h r d)) := by
  unfold val_main_call2_v4 val_main_call2_v3 val_main_call2_v1 val_main_call2_v0 val_main_cst_29 val_main_cst_30
  pointwise []
  exact clip_words (word_read _) (word_read _) _

theorem vquery_read (b : Fin 2) (s : Fin 4) (k : Fin 3) (p : Fin 256) (h : Fin 8) (d : Fin 64) :
    val_main_v127 (F := Ideal) (A.x 0) (A.x 1) (A.x 2) (A.x 3) (A.m 0) (A.m 1) (A.m 2) (A.m 3) A.wo A.wv (ix4 (pairRow b s) h (slotRow k p) d)
      = ((A.data b).vquery (slot A b s k) p (headCol h d) : EReal) := by
  have hy := values_projected A b s k p
  unfold val_main_v127 val_main_call2_v2 val_main_v118 val_main_v117 val_main_v111
  generalize val_main_v110 (F := Ideal) (A.x 0) (A.x 1) (A.x 2) (A.x 3) (A.m 0) (A.m 1) (A.m 2) (A.m 3) A.wo A.wv = y at hy
  rw [vquery_clip, values_third0, hy]
  exact (coe_clipR _).symm

theorem vkey_clip (y : S8x8x768x64.Idx → EReal) (i h : Fin 8) (r : Fin 768) (d : Fin 64) :
    minimumf (F := Ideal) (φ := .f32) (val_main_call3_v4 (F := Ideal)) (maximumf (F := Ideal) (φ := .f32) (val_main_call3_v1 (F := Ideal)) y) (ix4 i h r d)
      = clip (y (ix4 i h r d)) := by
  unfold val_main_call3_v4 val_main_call3_v3 val_main_call3_v1 val_main_call3_v0 val_main_cst_31 val_main_cst_32
  pointwise []
  exact clip_words (word_read _) (word_read _) _

theorem vkey_read (b : Fin 2) (s : Fin 4) (k : Fin 3) (p : Fin 256) (h : Fin 8) (d : Fin 64) :
    val_main_v128 (F := Ideal) (A.x 0) (A.x 1) (A.x 2) (A.x 3) (A.m 0) (A.m 1) (A.m 2) (A.m 3) A.wo A.wv (ix4 (pairRow b s) h (slotRow k p) d)
      = ((A.data b).vkey (slot A b s k) p (headCol h d) : EReal) := by
  have hy := values_projected A b s k p
  unfold val_main_v128 val_main_call3_v2 val_main_v120 val_main_v119 val_main_v112
  generalize val_main_v110 (F := Ideal) (A.x 0) (A.x 1) (A.x 2) (A.x 3) (A.m 0) (A.m 1) (A.m 2) (A.m 3) A.wo A.wv = y at hy
  rw [vkey_clip, values_third1, hy]
  exact (coe_clipR _).symm

theorem mquery_clip (y : S8x8x768x64.Idx → EReal) (i h : Fin 8) (r : Fin 768) (d : Fin 64) :
    minimumf (F := Ideal) (φ := .f32) (val_main_call4_v4 (F := Ideal)) (maximumf (F := Ideal) (φ := .f32) (val_main_call4_v1 (F := Ideal)) y) (ix4 i h r d)
      = clip (y (ix4 i h r d)) := by
  unfold val_main_call4_v4 val_main_call4_v3 val_main_call4_v1 val_main_call4_v0 val_main_cst_33 val_main_cst_34
  pointwise []
  exact clip_words (word_read _) (word_read _) _

theorem mquery_read (b : Fin 2) (s : Fin 4) (k : Fin 3) (p : Fin 256) (h : Fin 8) (d : Fin 64) :
    val_main_v129 (F := Ideal) (A.m 0) (A.m 1) (A.m 2) (A.m 3) A.wo A.wi (ix4 (pairRow b s) h (slotRow k p) d)
      = ((A.data b).mquery (slot A b s k) p (headCol h d) : EReal) := by
  have hy := metadata_projected A b s k p
  unfold val_main_v129 val_main_call4_v2 val_main_v124 val_main_v123 val_main_v115
  generalize val_main_v114 (F := Ideal) (A.m 0) (A.m 1) (A.m 2) (A.m 3) A.wo A.wi = y at hy
  rw [mquery_clip, metadata_third0, hy]
  exact (coe_clipR _).symm

theorem mkey_clip (y : S8x8x768x64.Idx → EReal) (i h : Fin 8) (r : Fin 768) (d : Fin 64) :
    minimumf (F := Ideal) (φ := .f32) (val_main_call5_v4 (F := Ideal)) (maximumf (F := Ideal) (φ := .f32) (val_main_call5_v1 (F := Ideal)) y) (ix4 i h r d)
      = clip (y (ix4 i h r d)) := by
  unfold val_main_call5_v4 val_main_call5_v3 val_main_call5_v1 val_main_call5_v0 val_main_cst_35 val_main_cst_36
  pointwise []
  exact clip_words (word_read _) (word_read _) _

theorem mkey_read (b : Fin 2) (s : Fin 4) (k : Fin 3) (p : Fin 256) (h : Fin 8) (d : Fin 64) :
    val_main_v130 (F := Ideal) (A.m 0) (A.m 1) (A.m 2) (A.m 3) A.wo A.wi (ix4 (pairRow b s) h (slotRow k p) d)
      = ((A.data b).mkey (slot A b s k) p (headCol h d) : EReal) := by
  have hy := metadata_projected A b s k p
  unfold val_main_v130 val_main_call5_v2 val_main_v126 val_main_v125 val_main_v116
  generalize val_main_v114 (F := Ideal) (A.m 0) (A.m 1) (A.m 2) (A.m 3) A.wo A.wi = y at hy
  rw [mkey_clip, metadata_third1, hy]
  exact (coe_clipR _).symm

theorem value_read (b : Fin 2) (s : Fin 4) (k : Fin 3) (p : Fin 256) (h : Fin 8) (d : Fin 64) :
    val_main_v122 (F := Ideal) (A.x 0) (A.x 1) (A.x 2) (A.x 3) (A.m 0) (A.m 1) (A.m 2) (A.m 3) A.wo A.wv (ix4 (pairRow b s) h (slotRow k p) d)
      = (A.data b).value (slot A b s k) p (headCol h d) := by
  have hy := values_projected A b s k p
  unfold val_main_v122 val_main_v121 val_main_v113
  generalize val_main_v110 (F := Ideal) (A.x 0) (A.x 1) (A.x 2) (A.x 3) (A.m 0) (A.m 1) (A.m 2) (A.m 3) A.wo A.wv = y at hy
  rw [values_third2, hy]
  rfl

/-- Products of heads, scaled. -/
theorem products_scaled (x y : S8x8x768x64.Idx → EReal) (i h : Fin 8) (q r : Fin 768) :
    mulf (F := Ideal) (φ := .f32) (Host.dotGeneral (F := Ideal) (φ₁ := .f32) (φ₂ := .f32) dot_S8x8x768x64_S8x8x64x768_S8x8x768x768_3_2_2_3_01_01 none x
        (transpose S8x8x64x768 [0, 1, 3, 2] y transposes_S8x8x768x64_S8x8x64x768_0_1_3_2))
      (broadcastInDim S8x8x768x768 ![] bcast_S_S8x8x768x768 (constant S_ .f32 0x3E000000#32)) (ix4 i h q r)
      = (∑ d : Fin 64, x (ix4 i h q d) * y (ix4 i h r d)) * ((1 / 8 : ℝ) : EReal) := by
  rw [← Cert.Spec.ofBits_eighth_f32]
  pointwise [dot_S8x8x768x64_S8x8x64x768_S8x8x768x768_3_2_2_3_01_01]

/-- Where nothing is masked the scores are kept. -/
theorem unmasked (z : S8x768.Idx → BitVec 1) (hz : ∀ j, z j = 0#1) (y y' : S8x8x768x768.Idx → EReal) (i h : Fin 8) (q r : Fin 768) :
    select (broadcastInDim S8x8x768x768 ![0, 1, 2, 3] bcast_S8x1x1x768_S8x8x768x768_0_1_2_3
      (broadcastInDim S8x1x1x768 ![0, 3] bcast_S8x768_S8x1x1x768_0_3 z)) y y' (ix4 i h q r) = y' (ix4 i h q r) := by
  have e : broadcastInDim S8x8x768x768 ![0, 1, 2, 3] bcast_S8x1x1x768_S8x8x768x768_0_1_2_3
      (broadcastInDim S8x1x1x768 ![0, 3] bcast_S8x768_S8x1x1x768_0_3 z) (ix4 i h q r) = 0#1 := hz _
  show (if _ = 1#1 then y _ else y' _) = y' _
  rw [e]
  rfl

theorem sum_at (x y : S8x8x768x768.Idx → EReal) (j : S8x8x768x768.Idx) : addf (F := Ideal) (φ := .f32) x y j = x j + y j := rfl

/-- A score, from the clipped heads. -/
theorem scores_cut (i h : Fin 8) (q r : Fin 768) :
    val_main_v141 (F := Ideal) (A.x 0) (A.x 1) (A.x 2) (A.x 3) (A.m 0) (A.m 1) (A.m 2) (A.m 3) A.wo A.wv A.wi (ix4 i h q r)
      = (∑ d : Fin 64, val_main_v127 (F := Ideal) (A.x 0) (A.x 1) (A.x 2) (A.x 3) (A.m 0) (A.m 1) (A.m 2) (A.m 3) A.wo A.wv (ix4 i h q d) * val_main_v128 (F := Ideal) (A.x 0) (A.x 1) (A.x 2) (A.x 3) (A.m 0) (A.m 1) (A.m 2) (A.m 3) A.wo A.wv (ix4 i h r d)) * ((1 / 8 : ℝ) : EReal)
        + (∑ d : Fin 64, val_main_v129 (F := Ideal) (A.m 0) (A.m 1) (A.m 2) (A.m 3) A.wo A.wi (ix4 i h q d) * val_main_v130 (F := Ideal) (A.m 0) (A.m 1) (A.m 2) (A.m 3) A.wo A.wi (ix4 i h r d)) * ((1 / 8 : ℝ) : EReal) := by
  have hm := mask_read A
  unfold val_main_v141 val_main_call6_v1 val_main_v140 val_main_v139 val_main_v134 val_main_v132 val_main_v131 val_main_v133 val_main_cst_37
    val_main_v138 val_main_v136 val_main_v135 val_main_v137 val_main_cst_38
  generalize val_main_v127 (F := Ideal) (A.x 0) (A.x 1) (A.x 2) (A.x 3) (A.m 0) (A.m 1) (A.m 2) (A.m 3) A.wo A.wv = y0
  generalize val_main_v128 (F := Ideal) (A.x 0) (A.x 1) (A.x 2) (A.x 3) (A.m 0) (A.m 1) (A.m 2) (A.m 3) A.wo A.wv = y1
  generalize val_main_v129 (F := Ideal) (A.m 0) (A.m 1) (A.m 2) (A.m 3) A.wo A.wi = y2
  generalize val_main_v130 (F := Ideal) (A.m 0) (A.m 1) (A.m 2) (A.m 3) A.wo A.wi = y3
  generalize val_main_v109 (F := Ideal) (A.m 0) (A.m 1) (A.m 2) (A.m 3) A.wo = z at hm ⊢
  rw [unmasked z hm, sum_at, products_scaled, products_scaled]

theorem scores_read (b : Fin 2) (s : Fin 4) (k k' : Fin 3) (p q : Fin 256) (h : Fin 8) :
    val_main_v141 (F := Ideal) (A.x 0) (A.x 1) (A.x 2) (A.x 3) (A.m 0) (A.m 1) (A.m 2) (A.m 3) A.wo A.wv A.wi (ix4 (pairRow b s) h (slotRow k p) (slotRow k' q))
      = ((A.data b).score (slot A b s k) h p (slot A b s k') q : EReal) := by
  rw [scores_cut]
  simp only [vquery_read, vkey_read, mquery_read, mkey_read]
  unfold Cert.Spec.Data.score
  rw [EReal.coe_add, EReal.coe_mul, EReal.coe_mul, Cert.Spec.coe_sum, Cert.Spec.coe_sum]
  simp only [EReal.coe_mul]

end Cert.ReferenceIdeal.Proof

end
-- ==== Proof.RefHead.lean ====
module

public import proofs.«01_k».proof.Proof.RefHeads

/-!
The reference's averages over the rows of three slots, and its result.
-/

@[expose] public section

set_option maxRecDepth 65536

noncomputable section

namespace Cert.ReferenceIdeal.Proof

open Idealize.ShloMosaic Cert.ReferenceIdeal Cert.ReferenceIdeal.Gen Cert.ReferenceIdeal.Read
open Cert.Spec (soft headCol)

variable (A : Cert.Spec.Arrays)

/-! ## The operations, at an element -/

theorem greater_at (x y : S8x8x768.Idx → EReal) (j : S8x8x768.Idx) : maximumf (F := Ideal) (φ := .f32) x y j = max (x j) (y j) := rfl

theorem word_at (w : BitVec 32) (j : S8x8x768.Idx) :
    broadcastInDim S8x8x768 ![] bcast_S_S8x8x768 (constant (F := Ideal) S_ .f32 w) j = Ideal.ofBits .f32 w := rfl

/-- The greatest number of a row. -/
theorem greatest_at (y : S8x8x768x768.Idx → EReal) (i h : Fin 8) (q : Fin 768) :
    Host.reduce (FloatOps.maximumf (F := Ideal) (φ := .f32)) y (constant (F := Ideal) S_ .f32 0xFF800000#32) reducesTo_S8x8x768x768_S8x8x768_d3 h_S_ (ix3 i h q)
      = (Finset.univ : Finset (Fin 768)).fold max (Ideal.ofBits .f32 0xFF800000#32) fun r => y (ix4 i h q r) := by
  pointwise []

theorem exp_at (y : S8x8x768x768.Idx → EReal) (z : S8x8x768.Idx → EReal) (i h : Fin 8) (q r : Fin 768) :
    Host.exp (F := Ideal) (φ := .f32) (subf (F := Ideal) (φ := .f32) y (broadcastInDim S8x8x768x768 ![0, 1, 2, 3] bcast_S8x8x768x1_S8x8x768x768_0_1_2_3
      (broadcastInDim S8x8x768x1 ![0, 1, 2] bcast_S8x8x768_S8x8x768x1_0_1_2 z))) (ix4 i h q r)
      = Ideal.exp (y (ix4 i h q r) - z (ix3 i h q)) := by
  pointwise []

theorem quotient_at (e : S8x8x768x768.Idx → EReal) (i h : Fin 8) (q r : Fin 768) :
    Host.divf (F := Ideal) (φ := .f32) e (broadcastInDim S8x8x768x768 ![0, 1, 2, 3] bcast_S8x8x768x1_S8x8x768x768_0_1_2_3
      (broadcastInDim S8x8x768x1 ![0, 1, 2] bcast_S8x8x768_S8x8x768x1_0_1_2
        (Host.reduceAdd (F := Ideal) (φ := .f32) e (constant S_ .f32 0x00000000#32) reducesTo_S8x8x768x768_S8x8x768_d3 h_S_))) (ix4 i h q r)
      = Ideal.div (e (ix4 i h q r)) (∑ r' : Fin 768, e (ix4 i h q r')) := by
  pointwise []

theorem weighted_at (w : S8x8x768x768.Idx → EReal) (v : S8x8x768x64.Idx → EReal) (i h : Fin 8) (q : Fin 768) (d : Fin 64) :
    Host.dotGeneral (F := Ideal) (φ₁ := .f32) (φ₂ := .f32) dot_S8x8x768x768_S8x8x768x64_S8x8x768x64_3_2_2_3_01_01 none w v (ix4 i h q d)
      = ∑ r : Fin 768, w (ix4 i h q r) * v (ix4 i h r d) := by
  pointwise [dot_S8x8x768x768_S8x8x768x64_S8x8x768x64_3_2_2_3_01_01]

/-! ## Averages -/

/-- The largest score of a row. -/
theorem greatest_cut (i h : Fin 8) (q : Fin 768) :
    val_main_v144 (F := Ideal) (A.x 0) (A.x 1) (A.x 2) (A.x 3) (A.m 0) (A.m 1) (A.m 2) (A.m 3) A.wo A.wv A.wi (ix3 i h q)
      = max ⊥ ((Finset.univ : Finset (Fin 768)).fold max ⊥ fun r => val_main_v141 (F := Ideal) (A.x 0) (A.x 1) (A.x 2) (A.x 3) (A.m 0) (A.m 1) (A.m 2) (A.m 3) A.wo A.wv A.wi (ix4 i h q r)) := by
  unfold val_main_v144 val_main_v143 val_main_cst_41 val_main_v142 val_main_cst_40
  generalize val_main_v141 (F := Ideal) (A.x 0) (A.x 1) (A.x 2) (A.x 3) (A.m 0) (A.m 1) (A.m 2) (A.m 3) A.wo A.wv A.wi = y
  rw [greater_at, word_at, greatest_at, Cert.Spec.ofBits_bottom_f32]

/-- An average, from the scores and the row's greatest. -/
theorem average_cut (i h : Fin 8) (q : Fin 768) (d : Fin 64) :
    val_main_v153 (F := Ideal) (A.x 0) (A.x 1) (A.x 2) (A.x 3) (A.m 0) (A.m 1) (A.m 2) (A.m 3) A.wo A.wv A.wi (ix4 i h q d)
      = ∑ r : Fin 768, Ideal.div (Ideal.exp (val_main_v141 (F := Ideal) (A.x 0) (A.x 1) (A.x 2) (A.x 3) (A.m 0) (A.m 1) (A.m 2) (A.m 3) A.wo A.wv A.wi (ix4 i h q r) - val_main_v144 (F := Ideal) (A.x 0) (A.x 1) (A.x 2) (A.x 3) (A.m 0) (A.m 1) (A.m 2) (A.m 3) A.wo A.wv A.wi (ix3 i h q)))
          (∑ r' : Fin 768, Ideal.exp (val_main_v141 (F := Ideal) (A.x 0) (A.x 1) (A.x 2) (A.x 3) (A.m 0) (A.m 1) (A.m 2) (A.m 3) A.wo A.wv A.wi (ix4 i h q r') - val_main_v144 (F := Ideal) (A.x 0) (A.x 1) (A.x 2) (A.x 3) (A.m 0) (A.m 1) (A.m 2) (A.m 3) A.wo A.wv A.wi (ix3 i h q)))
        * val_main_v122 (F := Ideal) (A.x 0) (A.x 1) (A.x 2) (A.x 3) (A.m 0) (A.m 1) (A.m 2) (A.m 3) A.wo A.wv (ix4 i h r d) := by
  unfold val_main_v153 val_main_v152 val_main_v151 val_main_v150 val_main_v149 val_main_v148 val_main_v147 val_main_v146 val_main_v145 val_main_cst_42
  generalize val_main_v141 (F := Ideal) (A.x 0) (A.x 1) (A.x 2) (A.x 3) (A.m 0) (A.m 1) (A.m 2) (A.m 3) A.wo A.wv A.wi = y
  generalize val_main_v144 (F := Ideal) (A.x 0) (A.x 1) (A.x 2) (A.x 3) (A.m 0) (A.m 1) (A.m 2) (A.m 3) A.wo A.wv A.wi = z
  generalize val_main_v122 (F := Ideal) (A.x 0) (A.x 1) (A.x 2) (A.x 3) (A.m 0) (A.m 1) (A.m 2) (A.m 3) A.wo A.wv = v
  rw [weighted_at]
  refine Finset.sum_congr rfl fun r _ => ?_
  rw [quotient_at, exp_at, Finset.sum_congr rfl fun r' _ => exp_at y z i h q r']

/-- An average of real scores, over the rows of three slots. -/
theorem average_read (i h : Fin 8) (q : Fin 768) (d : Fin 64) (S : Fin 768 → ℝ)
    (hS : ∀ r, val_main_v141 (F := Ideal) (A.x 0) (A.x 1) (A.x 2) (A.x 3) (A.m 0) (A.m 1) (A.m 2) (A.m 3) A.wo A.wv A.wi (ix4 i h q r) = (S r : EReal)) :
    val_main_v153 (F := Ideal) (A.x 0) (A.x 1) (A.x 2) (A.x 3) (A.m 0) (A.m 1) (A.m 2) (A.m 3) A.wo A.wv A.wi (ix4 i h q d)
      = soft S fun r => val_main_v122 (F := Ideal) (A.x 0) (A.x 1) (A.x 2) (A.x 3) (A.m 0) (A.m 1) (A.m 2) (A.m 3) A.wo A.wv (ix4 i h r d) := by
  obtain ⟨m, hm⟩ := Cert.Spec.fold_max_real S
  rw [average_cut, greatest_cut]
  simp only [hS]
  rw [hm, max_eq_right bot_le]
  exact Cert.Spec.soft_of_quotients S m _

/-- The rows of three slots, slot by slot. -/
def slotRows : Fin 3 × Fin 256 ≃ Fin 768 where
  toFun r := slotRow r.1 r.2
  invFun r := (⟨r.val / 256, by omega⟩, ⟨r.val % 256, by omega⟩)
  left_inv r := by
    refine Prod.ext (Fin.ext ?_) (Fin.ext ?_)
    · show (256 * r.1.val + r.2.val) / 256 = r.1.val; omega
    · show (256 * r.1.val + r.2.val) % 256 = r.2.val; omega
  right_inv r := Fin.ext (by show 256 * (r.val / 256) + r.val % 256 = r.val; omega)

/-- The first slot is the source's own. -/
theorem slot_zero (b : Fin 2) (s : Fin 4) : slot A b s 0 = s :=
  (Cert.Spec.slots_of_order ((A.data b).near s) s fun _ hw => (A.data b).near_self hw).1

/-- The slots are the sources other than the one left out. -/
theorem slot_perm (b : Fin 2) (s : Fin 4) :
    ∃ π : Fin 3 ≃ Fin 3, ∀ k, slot A b s k = (Cert.Spec.lastOf ((A.data b).near s)).succAbove (π k) :=
  (Cert.Spec.slots_of_order ((A.data b).near s) s fun _ hw => (A.data b).near_self hw).2

theorem head_read (b : Fin 2) (s : Fin 4) (h : Fin 8) (p : Fin 256) (d : Fin 64) :
    val_main_v153 (F := Ideal) (A.x 0) (A.x 1) (A.x 2) (A.x 3) (A.m 0) (A.m 1) (A.m 2) (A.m 3) A.wo A.wv A.wi (ix4 (pairRow b s) h (slotRow 0 p) d)
      = (A.data b).head s (Cert.Spec.lastOf ((A.data b).near s)) h p d := by
  have hS : ∀ r : Fin 768, val_main_v141 (F := Ideal) (A.x 0) (A.x 1) (A.x 2) (A.x 3) (A.m 0) (A.m 1) (A.m 2) (A.m 3) A.wo A.wv A.wi (ix4 (pairRow b s) h (slotRow 0 p) r)
      = ((A.data b).score s h p (slot A b s (slotRows.symm r).1) (slotRows.symm r).2 : EReal) := fun r => by
    have e : r = slotRow (slotRows.symm r).1 (slotRows.symm r).2 := (slotRows.apply_symm_apply r).symm
    have h1 := scores_read A b s 0 (slotRows.symm r).1 p (slotRows.symm r).2 h
    rw [← e, slot_zero] at h1
    exact h1
  obtain ⟨π, hπ⟩ := slot_perm A b s
  have hπ' : ∀ r : Fin 3, slot A b s (π.symm r) = (Cert.Spec.lastOf ((A.data b).near s)).succAbove r := fun r => by
    rw [hπ, Equiv.apply_symm_apply]
  refine (average_read A _ _ _ _ _ hS).trans ?_
  refine (Cert.Spec.soft_equiv ((Equiv.prodCongr π.symm (Equiv.refl (Fin 256))).trans slotRows) _ _).symm.trans ?_
  unfold Cert.Spec.Data.head
  refine congrArg₂ soft (funext fun r => ?_) (funext fun r => ?_)
  · have e : slotRows.symm (((Equiv.prodCongr π.symm (Equiv.refl (Fin 256))).trans slotRows) r) = (π.symm r.1, r.2) :=
      slotRows.symm_apply_apply _
    rw [e, hπ']
  · refine (value_read A b s (π.symm r.1) r.2 h d).trans ?_
    rw [hπ']

end Cert.ReferenceIdeal.Proof

end
-- ==== Proof.RefOut.lean ====
module

public import proofs.«01_k».proof.Proof.RefHead

/-!
The reference's result.
-/

@[expose] public section

set_option maxRecDepth 65536

noncomputable section

namespace Cert.ReferenceIdeal.Proof

open Idealize.ShloMosaic Cert.ReferenceIdeal Cert.ReferenceIdeal.Gen Cert.ReferenceIdeal.Read

variable (A : Cert.Spec.Arrays)

/-- The heads of a row, one after the other. -/
theorem joined_at (y : S8x8x768x64.Idx → EReal) (i : Fin 8) (r : Fin 768) (c : Fin 512) :
    shapeCast S8x768x512 (transpose S8x768x8x64 [0, 2, 1, 3] y transposes_S8x8x768x64_S8x768x8x64_0_2_1_3) shapeCasts_S8x768x8x64_S8x768x512 (ix3 i r c)
      = y (ix4 i ⟨c.val / 64, by omega⟩ r ⟨c.val % 64, by omega⟩) := by
  pointwise []

theorem output_at (x : S8x768x512.Idx → EReal) (w : S512x512.Idx → EReal) (i : Fin 8) (r : Fin 768) (n : Fin 512) :
    Host.dotGeneral (F := Ideal) (φ₁ := .f32) (φ₂ := .f32) dot_S8x768x512_S512x512_S8x768x512_2_0_01_1_n_n none x w (ix3 i r n)
      = ∑ c : Fin 512, x (ix3 i r c) * w (ix2 c n) := by
  pointwise [dot_S8x768x512_S512x512_S8x768x512_2_0_01_1_n_n]

theorem bias_at (x : S512.Idx → EReal) (i : Fin 8) (r : Fin 768) (n : Fin 512) :
    broadcastInDim S8x768x512 ![0, 1, 2] bcast_S1x1x512_S8x768x512_0_1_2 (broadcastInDim S1x1x512 ![2] bcast_S512_S1x1x512_2 x) (ix3 i r n)
      = x (ix1 n) := by
  pointwise []

theorem added_at (x y : S8x768x512.Idx → EReal) (j : S8x768x512.Idx) : addf (F := Ideal) (φ := .f32) x y j = x j + y j := rfl

/-- Every row of every slot, projected. -/
theorem rows_read (b : Fin 2) (s : Fin 4) (p : Fin 256) (n : Fin 512) :
    val_main_v159 (F := Ideal) (A.x 0) (A.x 1) (A.x 2) (A.x 3) (A.m 0) (A.m 1) (A.m 2) (A.m 3) A.wo A.wv A.wi A.wt A.bo (ix3 (pairRow b s) (slotRow 0 p) n) = A.out b s p n := by
  have hy := fun h d => head_read A b s h p d
  unfold val_main_v159 val_main_v158 val_main_v157 val_main_v156 val_main_v155 val_main_v154
  generalize val_main_v153 (F := Ideal) (A.x 0) (A.x 1) (A.x 2) (A.x 3) (A.m 0) (A.m 1) (A.m 2) (A.m 3) A.wo A.wv A.wi = y at hy
  rw [added_at, bias_at, output_at]
  refine congrArg (· + A.bo (ix1 n)) (Finset.sum_congr rfl fun c _ => ?_)
  rw [joined_at, hy]
  rfl

/-- The first slots' rows, one after the other. -/
theorem first_slots (y : S8x768x512.Idx → EReal) (b : Fin 2) (s : Fin 4) (p : Fin 256) (n : Fin 512) (i : S2048x512.Idx)
    (h0 : (i 0).val = 1024 * b.val + 256 * s.val + p.val) (h1 : (i 1).val = n.val) :
    shapeCast S2048x512 (shapeCast S2x4x256x512 (extractStridedSlice S2x4x1x256x512 ![0, 0, 0, 0, 0]
      (shapeCast S2x4x3x256x512 y shapeCasts_S8x768x512_S2x4x3x256x512) slices_S2x4x3x256x512_S2x4x1x256x512_0_0_0_0_0)
      shapeCasts_S2x4x1x256x512_S2x4x256x512) shapeCasts_S2x4x256x512_S2048x512 i = y (ix3 (pairRow b s) (slotRow 0 p) n) := by
  pointwise []
  refine congrArg y ?_
  funext a
  refine Fin.ext ?_
  match a with
  | 0 => show (i 0).val / 1024 * 4 + (i 0).val / 256 % 4 = 4 * b.val + s.val; omega
  | 1 => show (i 0).val % 256 = 256 * 0 + p.val; omega
  | 2 => exact h1

theorem result_read : val_main_v163 (F := Ideal) (A.x 0) (A.x 1) (A.x 2) (A.x 3) (A.m 0) (A.m 1) (A.m 2) (A.m 3) A.wo A.wv A.wi A.wt A.bo = A.result := by
  funext i
  have hi0 : (i 0).val < 2048 := (i 0).isLt
  have hy := fun b s p n => rows_read A b s p n
  have e0 : (i 0).val = 1024 * ((i 0).val / 1024) + 256 * ((i 0).val / 256 % 4) + (i 0).val % 256 := by omega
  unfold val_main_v163 val_main_v162 val_main_v161 val_main_v160
  generalize val_main_v159 (F := Ideal) (A.x 0) (A.x 1) (A.x 2) (A.x 3) (A.m 0) (A.m 1) (A.m 2) (A.m 3) A.wo A.wv A.wi A.wt A.bo = y at hy
  have hi1 : (i 1).val < 512 := (i 1).isLt
  exact (first_slots y ⟨(i 0).val / 1024, by omega⟩ ⟨(i 0).val / 256 % 4, by omega⟩ ⟨(i 0).val % 256, by omega⟩ ⟨(i 1).val, hi1⟩ i e0 rfl).trans
    ((hy _ _ _ _).trans (A.result_apply i _ _ _ ⟨(i 1).val, hi1⟩ e0 rfl).symm)

end Cert.ReferenceIdeal.Proof

end
-- ==== Proof.Values.lean ====
module

public import proofs.«01_k».proof.Proof.Final
public import proofs.«01_k».proof.Proof.RefOut
public import proofs.«01_k».proof.Defs
public import proofs.«01_k».proof.Proof.Reference

/-!
What each program ends holding: the same function of its argument arrays.
-/

@[expose] public section

set_option maxRecDepth 100000

noncomputable section

namespace Cert.KernelIdeal.Proof

open Idealize.ShloMosaic Idealize.SL.Sem Cert.KernelIdeal.Gen

/-- The kernel's result array ends holding the result of its arguments. -/
theorem kernel_value (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v1) = (arraysOf m c).result) :=
  (θ_run defs _ _).mono (fun _ h c => ((h c).1 13).trans (result_eq m c)) (run_arrays m ρ)

end Cert.KernelIdeal.Proof

namespace Cert.ReferenceIdeal.Proof

open Idealize.ShloMosaic Idealize.SL.Sem Cert.ReferenceIdeal.Gen

variable (m : (ℓ : Loc nD τ sig) → Buf (Elt Ideal) ℓ) (c : Dev nD)

/-- The argument arrays of core `c`. -/
def arraysOf : Cert.Spec.Arrays where
  x := ![m ((c.tc : Thread nD τ).loc main_arg0), m ((c.tc : Thread nD τ).loc main_arg1), m ((c.tc : Thread nD τ).loc main_arg2),
    m ((c.tc : Thread nD τ).loc main_arg3)]
  m := ![m ((c.tc : Thread nD τ).loc main_arg4), m ((c.tc : Thread nD τ).loc main_arg5), m ((c.tc : Thread nD τ).loc main_arg6),
    m ((c.tc : Thread nD τ).loc main_arg7)]
  wo := m ((c.tc : Thread nD τ).loc main_arg8)
  wv := m ((c.tc : Thread nD τ).loc main_arg9)
  wi := m ((c.tc : Thread nD τ).loc main_arg10)
  wt := m ((c.tc : Thread nD τ).loc main_arg11)
  bo := m ((c.tc : Thread nD τ).loc main_arg12)

/-- The reference's result array ends holding the result of its arguments. -/
theorem reference_value (ρ : Dev nD → PrngReg) :
    θ_run (defs (F := Ideal)) (onTc (τ := τ) (main (F := Ideal))) ⟨m, fun _ => 0, ρ⟩ (fun r => ∀ c : Dev nD,
      r.2.mem ((c.tc : Thread nD τ).loc main_v163) = (arraysOf m c).result) :=
  (θ_run defs _ _).mono (fun _ h c => (h c).1.trans ((Read.val_main_v163_eq (StableHlo.launchContents m c)).trans
    (result_read (arraysOf m c)))) (Value.run m ρ)

end Cert.ReferenceIdeal.Proof

namespace Cert.Proof

open Idealize.ShloMosaic Idealize.SL.Sem

theorem arrays_eq {x0 x1 x2 x3 y0 y1 y2 y3 : (⟨3, ![2, 256, 512]⟩ : Shape).Idx → EReal}
    {m0 m1 m2 m3 n0 n1 n2 n3 : (⟨3, ![2, 256, 256]⟩ : Shape).Idx → EReal} {wo wo' wi wi' : (⟨2, ![256, 1024]⟩ : Shape).Idx → EReal}
    {wv wv' : (⟨2, ![512, 1536]⟩ : Shape).Idx → EReal} {wt wt' : (⟨2, ![512, 512]⟩ : Shape).Idx → EReal}
    {bo bo' : (⟨1, ![512]⟩ : Shape).Idx → EReal}
    (h : x0 = y0 ∧ x1 = y1 ∧ x2 = y2 ∧ x3 = y3 ∧ m0 = n0 ∧ m1 = n1 ∧ m2 = n2 ∧ m3 = n3 ∧ wo = wo' ∧ wv = wv' ∧ wi = wi' ∧ wt = wt' ∧ bo = bo') :
    (⟨![x0, x1, x2, x3], ![m0, m1, m2, m3], wo, wv, wi, wt, bo⟩ : Cert.Spec.Arrays)
      = ⟨![y0, y1, y2, y3], ![n0, n1, n2, n3], wo', wv', wi', wt', bo'⟩ := by
  obtain ⟨rfl, rfl, rfl, rfl, rfl, rfl, rfl, rfl, rfl, rfl, rfl, rfl, rfl⟩ := h
  rfl

/-- From equal arguments the two programs end with equal results. -/
theorem equal_results : Cert.algebraic_KernelIdeal_ReferenceIdeal (hKernelIdeal := Cert.KernelIdeal.Gen.facts)
    (hReferenceIdeal := Cert.ReferenceIdeal.Gen.facts) := by
  intro m g m' g' _ hargs
  refine ⟨fun c => (Cert.KernelIdeal.Proof.arraysOf m c).result, ?_, ?_⟩
  · exact (θ_run _ _ _).mono (fun r h c => ⟨h.1 c, h.2.1 c⟩)
      (θ_run_and (Cert.KernelIdeal.Proof.kernel_value m g) (Cert.KernelIdeal.Proof.frame m g))
  · exact (θ_run _ _ _).mono (fun r h c => ⟨(h.1 c).trans (congrArg Cert.Spec.Arrays.result (arrays_eq (hargs c))), h.2.1 c⟩)
      (θ_run_and (Cert.ReferenceIdeal.Proof.reference_value m' g') (Cert.ReferenceIdeal.Proof.frame m' g'))

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import Idealize.ShloMosaic.Adequacy
public import Idealize.ShloMosaic.Init
public import proofs.«01_k».proof.Proof.Gen.ReferenceIdeal.Run
public import proofs.«01_k».proof.Proof.Transfer
public import proofs.«01_k».proof.Proof.Reference
public import proofs.«01_k».proof.Proof.Values

@[expose] public section

noncomputable section

namespace Cert.Proof

open Idealize.ShloMosaic Idealize.SL.Sem

/-- The three programs keep their arguments and end with every counter at zero; idealizing only named one constant, the
reciprocal root of 512; over extended reals the kernel and the reference end with equal results. -/
theorem claim : Cert.Claim := ⟨Cert.Kernel.Gen.facts, Cert.KernelIdeal.Gen.facts, Cert.ReferenceIdeal.Gen.facts,
  fun m g _ => kernel_frame m g, fun m g _ => Cert.KernelIdeal.Proof.frame m g,
  fun m g _ => Cert.ReferenceIdeal.Proof.frame m g,
  IdealRules.named_const.statement Cert.KernelIdeal.κ "inv_sqrt_512" .f32 0x3D3504F3#32 (((Real.sqrt 512)⁻¹ : ℝ) : EReal) rfl,
  equal_results⟩

end Cert.Proof

end
